-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x5120 : Shape := ⟨3, ![8, 4096, 5120]⟩
abbrev S1280x5120 : Shape := ⟨2, ![1280, 5120]⟩
abbrev S_ : Shape := ⟨0, ![]⟩

class Facts : Prop where
  bitsLt_bf16_f32 : FTy.bits .bf16 < FTy.bits .f32
  reducesTo_S8x4096x5120_S_d0_1_2 : S8x4096x5120.ReducesTo [0, 1, 2] S_
  h_S_ : 0 < S_.numel

variable [Facts]

def fn {F : FTy → Type} [FloatOps F] (main_arg0 : FVec F S8x4096x5120 .bf16) (main_arg1 : FVec F S1280x5120 .fp8e4m3) (main_arg2 : FVec F S_ .f32) : IVec S_ 1 :=
  let main_v0 : FVec F S8x4096x5120 .f32 := (extf .f32 · bitsLt_bf16_f32) main_arg0
  let main_v1 : FVec F S8x4096x5120 .f32 := Host.absf main_v0
  let main_cst : FVec F S_ .f32 := constant S_ .f32 0xFF800000#32
  let main_v2 : FVec F S_ .f32 := (fun x v => Host.reduce FloatOps.maximumf x v reducesTo_S8x4096x5120_S_d0_1_2 h_S_) main_v1 main_cst
  let main_cst_0 : FVec F S_ .f32 := constant S_ .f32 0x00000000#32
  let main_v3 : IVec S_ 1 := cmpf .oeq main_v2 main_cst_0
  let main_cst_1 : FVec F S_ .f32 := constant S_ .f32 0x04E00000#32
  let main_v4 : IVec S_ 1 := cmpf .oge main_v2 main_cst_1
  let main_cst_2 : FVec F S_ .f32 := constant S_ .f32 0x7F7F0000#32
  let main_v5 : IVec S_ 1 := cmpf .ole main_v2 main_cst_2
  let main_v6 : IVec S_ 1 := andi main_v4 main_v5
  let main_v7 : IVec S_ 1 := ori main_v3 main_v6
  main_v7
-- ==== Kernel.lean ====
abbrev S8x4096x5120 : Shape := ⟨3, ![8, 4096, 5120]⟩
abbrev S1280x5120 : Shape := ⟨2, ![1280, 5120]⟩
abbrev S_ : Shape := ⟨0, ![]⟩
abbrev S32768x5120 : Shape := ⟨2, ![32768, 5120]⟩
abbrev S8x128 : Shape := ⟨2, ![8, 128]⟩
abbrev S512x5120 : Shape := ⟨2, ![512, 5120]⟩
abbrev S32x16x5120 : Shape := ⟨3, ![32, 16, 5120]⟩
abbrev S16x5120 : Shape := ⟨2, ![16, 5120]⟩
abbrev S5120 : Shape := ⟨1, ![5120]⟩
abbrev S1x5120 : Shape := ⟨2, ![1, 5120]⟩
abbrev S1 : Shape := ⟨1, ![1]⟩
abbrev S1x1 : Shape := ⟨2, ![1, 1]⟩
abbrev S32768x1280 : Shape := ⟨2, ![32768, 1280]⟩
abbrev S512x1280 : Shape := ⟨2, ![512, 1280]⟩
abbrev S1x128 : Shape := ⟨2, ![1, 128]⟩
abbrev S8x4096x1280 : Shape := ⟨3, ![8, 4096, 1280]⟩

abbrev nBuf : Space → Nat
  | .hbm => 13
  | .vmem => 12
  | .smem => 1
  | _ => 0

abbrev bufTy : (tb : Table) → Fin (tcTables nBuf tb) → BufTy
  | .hbm, ⟨0, _⟩ => ⟨S8x4096x5120, .bf16⟩
  | .hbm, ⟨1, _⟩ => ⟨S1280x5120, .fp8e4m3⟩
  | .hbm, ⟨2, _⟩ => ⟨S_, .f32⟩
  | .hbm, ⟨3, _⟩ => ⟨S32768x5120, .bf16⟩
  | .hbm, ⟨4, _⟩ => ⟨S8x128, .f32⟩
  | .hbm, ⟨5, _⟩ => ⟨S1x1, .f32⟩
  | .hbm, ⟨6, _⟩ => ⟨S32768x1280, .bf16⟩
  | .hbm, ⟨7, _⟩ => ⟨S32768x5120, .fp8e4m3⟩
  | .hbm, ⟨8, _⟩ => ⟨S8x128, .f32⟩
  | .hbm, ⟨9, _⟩ => ⟨S8x4096x1280, .bf16⟩
  | .hbm, ⟨10, _⟩ => ⟨S8x4096x5120, .fp8e4m3⟩
  | .hbm, ⟨11, _⟩ => ⟨S1x1, .f32⟩
  | .hbm, ⟨12, _⟩ => ⟨S_, .f32⟩
  | .local _ .vmem, ⟨0, _⟩ => ⟨S512x5120, .bf16⟩
  | .local _ .vmem, ⟨1, _⟩ => ⟨S512x5120, .bf16⟩
  | .local _ .vmem, ⟨2, _⟩ => ⟨S8x128, .f32⟩
  | .local _ .vmem, ⟨3, _⟩ => ⟨S8x128, .f32⟩
  | .local _ .vmem, ⟨4, _⟩ => ⟨S512x5120, .bf16⟩
  | .local _ .vmem, ⟨5, _⟩ => ⟨S512x5120, .bf16⟩
  | .local _ .vmem, ⟨6, _⟩ => ⟨S1280x5120, .fp8e4m3⟩
  | .local _ .vmem, ⟨7, _⟩ => ⟨S512x1280, .bf16⟩
  | .local _ .vmem, ⟨8, _⟩ => ⟨S512x1280, .bf16⟩
  | .local _ .vmem, ⟨9, _⟩ => ⟨S512x5120, .fp8e4m3⟩
  | .local _ .vmem, ⟨10, _⟩ => ⟨S512x5120, .fp8e4m3⟩
  | .local _ .vmem, ⟨11, _⟩ => ⟨S8x128, .f32⟩
  | .local _ .smem, ⟨0, _⟩ => ⟨S1x1, .f32⟩
  | _, _ => ⟨S8x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_3 : BitVec 32 := 0#32
  let v14 : BitVec 1 := Scalar.cmpi .ne v13 c0_i32_3
  v14

def k0_cond2 (i : grid0.Coords) : BitVec 1 :=
  let arg0 : BitVec 32 := BitVec.ofNat 32 (i 0).val
  let c0_i32_4 : BitVec 32 := 0#32
  let v15 : BitVec 1 := Scalar.cmpi .ne arg0 c0_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1280x5120 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x5120 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S8x4096x5120 : Shape := ⟨3, ![8, 4096, 5120]⟩
abbrev S1280x5120 : Shape := ⟨2, ![1280, 5120]⟩
abbrev S_ : Shape := ⟨0, ![]⟩
abbrev S32768x5120 : Shape := ⟨2, ![32768, 5120]⟩
abbrev S1x1 : Shape := ⟨2, ![1, 1]⟩
abbrev S32768x1280 : Shape := ⟨2, ![32768, 1280]⟩
abbrev S8x4096x1280 : Shape := ⟨3, ![8, 4096, 1280]⟩

abbrev nBuf : Space → Nat
  | .hbm => 33
  | .vmem => 7
  | .smem => 0
  | _ => 0

abbrev bufTy : (tb : Table) → Fin (tcTables nBuf tb) → BufTy
  | .hbm, ⟨0, _⟩ => ⟨S8x4096x5120, .bf16⟩
  | .hbm, ⟨1, _⟩ => ⟨S1280x5120, .fp8e4m3⟩
  | .hbm, ⟨2, _⟩ => ⟨S_, .f32⟩
  | .hbm, ⟨3, _⟩ => ⟨S8x4096x5120, .f32⟩
  | .hbm, ⟨4, _⟩ => ⟨S8x4096x5120, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32768x5120, .bf16⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S32768x1280, .bf16⟩
  | .hbm, ⟨30, _⟩ => ⟨S32768x5120, .fp8e4m3⟩
  | .hbm, ⟨31, _⟩ => ⟨S8x4096x1280, .bf16⟩
  | .hbm, ⟨32, _⟩ => ⟨S8x4096x5120, .fp8e4m3⟩
  | .local _ .vmem, ⟨0, _⟩ => ⟨S32768x5120, .bf16⟩
  | .local _ .vmem, ⟨1, _⟩ => ⟨S1280x5120, .fp8e4m3⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S32768x1280, .bf16⟩
  | .local _ .vmem, ⟨6, _⟩ => ⟨S32768x5120, .fp8e4m3⟩
  | _, _ => ⟨S8x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FrameKernel.lean ====
/- The run of `Kernel`: @main is two TensorCore regions (the block maxima, then the quantised product) among stretches
   of host operations. Per region, at a parameter `V` (the contents of the buffers when the region is entered): each
   window's block at a grid point, what the body leaves in each output's buffer, and the obligation that it does so.
   Then the contents of the buffers at every boundary between segments (`W0` to `W5`, a fold from the launch memory),
   the run (`run`: every buffer of the program ends at `W5` and every semaphore counter at zero) and the frame (`frame`:
   the arguments end unchanged). The first region folds its maximum into an output block that it keeps from one grid
   point to the next: its contents at a point are stated from those at the point before (`outsAt0`). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_amax` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Whether output 1's buffer is FRESH at each position `1 ‥ N` — holds nothing the body stored since the region's entry or the
    last write-back (written back at the point before, or idle there and fresh before it) —, as a bitmask the classifier
    computed, bit `n` for position `n + 1`; position 0 is fresh. `freshTab0_1_step` checks it against the configuration's own
    step point by point and Lib/Pipeline/TableIdle.lean `Cfg.fresh_tab` makes it `Cfg.fresh` (`fresh0_1_eq`). -/
def freshTab0_1 : ℕ → Bool
  | 0 => true
  | n + 1 => (0x8000000000000000 : ℕ).testBit n
theorem freshTab0_1_step : ∀ t : Fin cfg0.N,
    freshTab0_1 (t.val + 1) = ((cfg0.win 1).flush t || (cfg0.idle 1 (cfg0.grid.coords t) && freshTab0_1 t.val)) := by decide +kernel
theorem fresh0_1_eq (t : Fin cfg0.N) : cfg0.fresh 1 t.val = freshTab0_1 t.val :=
  Pipeline.Cfg.fresh_tab cfg0 1 freshTab0_1 rfl freshTab0_1_step t.val (Nat.le_of_lt t.isLt)
/-- At the points of case A the printed configuration (`Cfg.idle`) calls output 1 live: the case stores into it. -/
theorem liveAt0_1_A : ∀ t : Fin cfg0.N, cond0_0 (grid0.coords t) → ¬cond0_1 (grid0.coords t) → cfg0.idle 1 (grid0.coords t) = false := by decide +kernel
/-- At the points of case B the printed configuration (`Cfg.idle`) calls output 1 live: the case stores into it. -/
theorem liveAt0_1_B : ∀ t : Fin cfg0.N, ¬cond0_0 (grid0.coords t) → cond0_1 (grid0.coords t) → cfg0.idle 1 (grid0.coords t) = false := by decide +kernel
/-- At the points of case B, which keeps output 1's prior contents (reads it before covering, or covers it in part), the
    window's buffer is not FRESH: something was stored into it since the region's entry or its last write-back, idle points
    between or not (Lib/Pipeline/TableIdle.lean `Cfg.fresh`, by the table `freshTab0_1`). -/
theorem notFresh0_1_B : ∀ t : Fin cfg0.N, ¬cond0_0 (grid0.coords t) → cond0_1 (grid0.coords t) → cfg0.fresh 1 t.val = false := by
  intro t; rw [fresh0_1_eq t]; revert t; decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) :
    { L1 : List (View.Piece (Elt F) S8x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_amax i arg1 harg1 arg2 harg2) K } := by
  refine ⟨?_, fun E K => ?run⟩
  case run =>
    simp only [cc0_amax_eq_skeleton]; unfold cc0_amax_skel
    unfold owns
    iintro ⟨⟨%f0, %hf0, H0⟩, ⟨%d1, %f1, -, H1⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    iexists _; iexact H1

/-- Case A's pieces for output 1 tile its block (1 store of `S8x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) (y : S8x128.Idx) :
    ∃ pc ∈ (kernelRun0_A c i arg1 harg1 arg2 harg2 hc0 hc1 x0).1, y ∈ pc.1.set :=
  View.cover_of_tiledL (kernelRun0_A c i arg1 harg1 arg2 harg2 hc0 hc1 x0).1 S8x128.size (by sl_kernel_rfl) y

/-- What case A leaves in output 1's staging buffer: its pieces read back over junk. -/
def out0_A_1 (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) : Vec F S8x128 .f32 :=
  VO0_1.read (Elt F) (VO0_1.writes (Elt F) VO0_1.junk (kernelRun0_A c i arg1 harg1 arg2 harg2 hc0 hc1 x0).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (1) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) :
    { L1 : List (View.Piece (Elt F) S8x128 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_amax i arg1 harg1 arg2 harg2) K } := by
  refine ⟨?_, fun E K => ?run⟩
  case run =>
    simp only [cc0_amax_eq_skeleton]; unfold cc0_amax_skel
    unfold owns
    iintro ⟨⟨%f0, %hf0, H0⟩, ⟨%f1, %hf1, H1⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    iexists _; iexact H1

/-- Case B's pieces for output 1 tile its block (1 store of `S8x128`, checked by the kernel's evaluation: Lib/Ring.lean `Piece.tiledL`, linear in the pieces, through a loop's `@[irreducible]` trip theorem too), so they cover it. -/
theorem cover0_B_1 (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) (y : S8x128.Idx) :
    ∃ pc ∈ (kernelRun0_B c i arg1 harg1 arg2 harg2 hc0 hc1 x0 xo1).1, y ∈ pc.1.set :=
  View.cover_of_tiledL (kernelRun0_B c i arg1 harg1 arg2 harg2 hc0 hc1 x0 xo1).1 S8x128.size (by sl_kernel_rfl) y

/-- What case B leaves in output 1's staging buffer: its pieces read back over junk. -/
def out0_B_1 (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) : Vec F S8x128 .f32 :=
  VO0_1.read (Elt F) (VO0_1.writes (Elt F) VO0_1.junk (kernelRun0_B c i arg1 harg1 arg2 harg2 hc0 hc1 x0 xo1).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S8x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 64 = 0 then
      if h1 : 1 ≤ (n + 1) then
        False.elim (by have hN : n + 1 < 64 := lt_of_lt_of_eq hn (show cfg0.N = 64 from N_0); omega)
      else
        out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : 1 ≤ (n + 1) then
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : ¬1 ≤ t.val) :
    outsAt0 V c t.val t.isLt = out0_A_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : 1 ≤ t.val) :
    outsAt0 V c t.val t.isLt = out0_B_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- Output 1's contents CARRY through the points that leave it idle: at such a point, its buffer not fresh, the proof data's
    `after` is the point before's (the case there stores nothing into the window and its term says so; a case that stores
    into it is not idle there by `liveAt0_1_κ`) — the hypothesis of Lib/Pipeline/TableIdle.lean `Dat.before_out_traj`. -/
theorem hcarry0_1 (c : Dev nD) : ∀ (t : Fin cfg0.N) (_ : t.val ≠ 0), cfg0.idle 1 (grid0.coords t) = true → cfg0.fresh 1 t.val = false →
    (dat0 V c).after 1 t = (dat0 V c).after 1 ⟨t.val - 1, by omega⟩ := by
  intro t _ hi _
  have hN : t.val < 64 := lt_of_lt_of_eq t.isLt (show cfg0.N = 64 from N_0)
  rw [after0_1, after0_1]
  by_cases h0 : t.val % 64 = 0
  · by_cases h1 : 1 ≤ t.val
    · exfalso; omega
    · rw [liveAt0_1_A t ((hcond0_0 t).mpr h0) (fun h => h1 ((hcond0_1 t).mp h))] at hi
      exact absurd hi Bool.false_ne_true
  · by_cases h1 : 1 ≤ t.val
    · rw [liveAt0_1_B t (fun h => h0 ((hcond0_0 t).mp h)) ((hcond0_1 t).mpr h1)] at hi
      exact absurd hi Bool.false_ne_true
    · exfalso; omega
/-- At a point of case B output 1's current staging buffer holds what the point before left: the buffer is not fresh
    there (`notFresh0_1_B`: stored into since the region's entry or the last write-back, carried through the points that
    leave it idle by `hcarry0_1`; Lib/Pipeline/TableIdle.lean `Dat.before_out_traj`). -/
theorem before0_1_B (c : Dev nD) (t : Fin cfg0.N) (h0 : ¬t.val % 64 = 0) (h1 : 1 ≤ t.val) (d) :
    (dat0 V c).before 1 t d = (outsAt0 V c (t.val - 1) (Nat.lt_of_le_of_lt (Nat.sub_le _ _) t.isLt)) := by
  rw [Dat.before_out_traj _ 1 rfl (fun _ _ => rfl) (hcarry0_1 V c) t.val t rfl d,
    if_neg (by rw [notFresh0_1_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val % 64 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_A t ((hcond0_0 t).mpr h0) (fun h => h1 ((hcond0_1 t).mp h))], after0_1]
      rw [outsAt0_A V c t h0 h1]
      unfold out0_A_1
      iintro ⟨HΦ, Ho, ⟨%d0, H0⟩, ⟨%d1, H1⟩⟩
      iapply ((kernelRun0_A c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
      rw [outsAt0_B V c t h0 h1]
      simp only [before0_1_B V c t h0 h1]
      unfold out0_B_1
      iintro ⟨HΦ, Ho, ⟨%d0, H0⟩, ⟨%d1, H1⟩⟩
      iapply ((kernelRun0_B c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_linear` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x1280 .bf16 := (Memref.whole cc1_stg4_0 : Memref sig .tc .vmem S512x1280 .bf16).view
/-- One staging buffer of output window 5, through which its contents are stated (`View.read_writes_of_cover`: the
    choice does not matter). -/
abbrev VO1_5 : View sig .tc .vmem S512x5120 .fp8e4m3 := (Memref.whole cc1_stg5_0 : Memref sig .tc .vmem S512x5120 .fp8e4m3).view
/-- One staging buffer of output window 6, through which its contents are stated (`View.read_writes_of_cover`: the
    choice does not matter). -/
abbrev VO1_6 : View sig .tc .vmem S8x128 .f32 := (Memref.whole cc1_stg6_0 : Memref sig .tc .vmem S8x128 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x5120 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x5120 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x5120 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) :
    Σ' (L4 : List (View.Piece (Elt F) S512x1280 .bf16)), Σ' (L5 : List (View.Piece (Elt F) S512x5120 .fp8e4m3)), { L6 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1_linear i arg1 harg1 arg2 harg2 arg3 harg3 arg4 harg4 arg5 harg5 arg6 harg6 arg7 harg7) K } := by
  refine ⟨?_, ?_, ?_, fun E K => ?run⟩
  case run =>
    simp only [cc1_linear_eq_skeleton]; unfold cc1_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-- The run's pieces for output 4 tile its block (1 store of `S512x1280`, checked by the kernel's evaluation: Lib/Ring.lean `Piece.tiledL`, linear in the pieces, through a loop's `@[irreducible]` trip theorem too), so they cover it. -/
theorem cover1_A_4 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S512x1280.Idx) :
    ∃ pc ∈ (kernelRun1_A c i arg1 harg1 arg2 harg2 arg3 harg3 arg4 harg4 arg5 harg5 arg6 harg6 arg7 harg7 x0 x1 x2 x3).1, y ∈ pc.1.set :=
  View.cover_of_tiledL (kernelRun1_A c i arg1 harg1 arg2 harg2 arg3 harg3 arg4 harg4 arg5 harg5 arg6 harg6 arg7 harg7 x0 x1 x2 x3).1 S512x1280.size (by sl_kernel_rfl) y

/-- What the run leaves in output 4's staging buffer: its pieces read back over junk. -/
def out1_A_4 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S512x1280 .bf16 :=
  VO1_4.read (Elt F) (VO1_4.writes (Elt F) VO1_4.junk (kernelRun1_A c i arg1 harg1 arg2 harg2 arg3 harg3 arg4 harg4 arg5 harg5 arg6 harg6 arg7 harg7 x0 x1 x2 x3).1)

/-- The run's pieces for output 5 tile its block (1 store of `S512x5120`, checked by the kernel's evaluation: Lib/Ring.lean `Piece.tiledL`, linear in the pieces, through a loop's `@[irreducible]` trip theorem too), so they cover it. -/
theorem cover1_A_5 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S512x5120.Idx) :
    ∃ pc ∈ (kernelRun1_A c i arg1 harg1 arg2 harg2 arg3 harg3 arg4 harg4 arg5 harg5 arg6 harg6 arg7 harg7 x0 x1 x2 x3).2.1, y ∈ pc.1.set :=
  View.cover_of_tiledL (kernelRun1_A c i arg1 harg1 arg2 harg2 arg3 harg3 arg4 harg4 arg5 harg5 arg6 harg6 arg7 harg7 x0 x1 x2 x3).2.1 S512x5120.size (by sl_kernel_rfl) y

/-- What the run leaves in output 5's staging buffer: its pieces read back over junk. -/
def out1_A_5 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S512x5120 .fp8e4m3 :=
  VO1_5.read (Elt F) (VO1_5.writes (Elt F) VO1_5.junk (kernelRun1_A c i arg1 harg1 arg2 harg2 arg3 harg3 arg4 harg4 arg5 harg5 arg6 harg6 arg7 harg7 x0 x1 x2 x3).2.1)

/-- The run's pieces for output 6 tile its block (1 store of `S8x128`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S8x128.Idx) :
    ∃ pc ∈ (kernelRun1_A c i arg1 harg1 arg2 harg2 arg3 harg3 arg4 harg4 arg5 harg5 arg6 harg6 arg7 harg7 x0 x1 x2 x3).2.2.1, y ∈ pc.1.set :=
  View.cover_of_tiledL (kernelRun1_A c i arg1 harg1 arg2 harg2 arg3 harg3 arg4 harg4 arg5 harg5 arg6 harg6 arg7 harg7 x0 x1 x2 x3).2.2.1 S8x128.size (by sl_kernel_rfl) y

/-- What the run leaves in output 6's staging buffer: its pieces read back over junk. -/
def out1_A_6 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S8x128 .f32 :=
  VO1_6.read (Elt F) (VO1_6.writes (Elt F) VO1_6.junk (kernelRun1_A c i arg1 harg1 arg2 harg2 arg3 harg3 arg4 harg4 arg5 harg5 arg6 harg6 arg7 harg7 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S512x1280 .bf16 × Vec F S512x5120 .fp8e4m3 × Vec F S8x128 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_4 out1_A_5 out1_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters every weakly fair execution of @main terminates without a
    fault, with every unscoped buffer at `W5` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- THE FRAME: from any memory with zero counters every weakly fair execution of @main terminates without a fault, with
    the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Kernel.Run

end
-- ==== Proof.FrameIdeal.lean ====
/- The run of `KernelIdeal`: @main is two TensorCore regions (the block maxima, then the quantised product) among stretches
   of host operations. Per region, at a parameter `V` (the contents of the buffers when the region is entered): each
   window's block at a grid point, what the body leaves in each output's buffer, and the obligation that it does so.
   Then the contents of the buffers at every boundary between segments (`W0` to `W5`, a fold from the launch memory),
   the run (`run`: every buffer of the program ends at `W5` and every semaphore counter at zero) and the frame (`frame`:
   the arguments end unchanged). The first region folds its maximum into an output block that it keeps from one grid
   point to the next: its contents at a point are stated from those at the point before (`outsAt0`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_amax` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Whether output 1's buffer is FRESH at each position `1 ‥ N` — holds nothing the body stored since the region's entry or the
    last write-back (written back at the point before, or idle there and fresh before it) —, as a bitmask the classifier
    computed, bit `n` for position `n + 1`; position 0 is fresh. `freshTab0_1_step` checks it against the configuration's own
    step point by point and Lib/Pipeline/TableIdle.lean `Cfg.fresh_tab` makes it `Cfg.fresh` (`fresh0_1_eq`). -/
def freshTab0_1 : ℕ → Bool
  | 0 => true
  | n + 1 => (0x8000000000000000 : ℕ).testBit n
theorem freshTab0_1_step : ∀ t : Fin cfg0.N,
    freshTab0_1 (t.val + 1) = ((cfg0.win 1).flush t || (cfg0.idle 1 (cfg0.grid.coords t) && freshTab0_1 t.val)) := by decide +kernel
theorem fresh0_1_eq (t : Fin cfg0.N) : cfg0.fresh 1 t.val = freshTab0_1 t.val :=
  Pipeline.Cfg.fresh_tab cfg0 1 freshTab0_1 rfl freshTab0_1_step t.val (Nat.le_of_lt t.isLt)
/-- At the points of case A the printed configuration (`Cfg.idle`) calls output 1 live: the case stores into it. -/
theorem liveAt0_1_A : ∀ t : Fin cfg0.N, cond0_0 (grid0.coords t) → ¬cond0_1 (grid0.coords t) → cfg0.idle 1 (grid0.coords t) = false := by decide +kernel
/-- At the points of case B the printed configuration (`Cfg.idle`) calls output 1 live: the case stores into it. -/
theorem liveAt0_1_B : ∀ t : Fin cfg0.N, ¬cond0_0 (grid0.coords t) → cond0_1 (grid0.coords t) → cfg0.idle 1 (grid0.coords t) = false := by decide +kernel
/-- At the points of case B, which keeps output 1's prior contents (reads it before covering, or covers it in part), the
    window's buffer is not FRESH: something was stored into it since the region's entry or its last write-back, idle points
    between or not (Lib/Pipeline/TableIdle.lean `Cfg.fresh`, by the table `freshTab0_1`). -/
theorem notFresh0_1_B : ∀ t : Fin cfg0.N, ¬cond0_0 (grid0.coords t) → cond0_1 (grid0.coords t) → cfg0.fresh 1 t.val = false := by
  intro t; rw [fresh0_1_eq t]; revert t; decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) :
    { L1 : List (View.Piece (Elt F) S8x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_amax i arg1 harg1 arg2 harg2) K } := by
  refine ⟨?_, fun E K => ?run⟩
  case run =>
    simp only [cc0_amax_eq_skeleton]; unfold cc0_amax_skel
    unfold owns
    iintro ⟨⟨%f0, %hf0, H0⟩, ⟨%d1, %f1, -, H1⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    iexists _; iexact H1

/-- Case A's pieces for output 1 tile its block (1 store of `S8x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) (y : S8x128.Idx) :
    ∃ pc ∈ (kernelRun0_A c i arg1 harg1 arg2 harg2 hc0 hc1 x0).1, y ∈ pc.1.set :=
  View.cover_of_tiledL (kernelRun0_A c i arg1 harg1 arg2 harg2 hc0 hc1 x0).1 S8x128.size (by sl_kernel_rfl) y

/-- What case A leaves in output 1's staging buffer: its pieces read back over junk. -/
def out0_A_1 (c : Dev nD) (i : grid0.Coords) (arg1 : Memref sig .tc .vmem S512x5120 .bf16) (harg1 : arg1.IsWhole) (arg2 : Memref sig .tc .vmem S8x128 .f32) (harg2 : arg2.IsWhole) (hc0 : cond0_0 i) (hc1 : ¬cond0_1 i)
    (x0 : Vec F S512x5120 .bf16) : Vec F S8x128 .f32 :=
  VO0_1.read (Elt F) (VO0_1.writes (Elt F) VO0_1.junk (kernelRun0_A c i arg1 harg1 arg2 harg2 hc0 hc1 x0).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (1) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) :
    { L1 : List (View.Piece (Elt F) S8x128 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_amax i arg1 harg1 arg2 harg2) K } := by
  refine ⟨?_, fun E K => ?run⟩
  case run =>
    simp only [cc0_amax_eq_skeleton]; unfold cc0_amax_skel
    unfold owns
    iintro ⟨⟨%f0, %hf0, H0⟩, ⟨%f1, %hf1, H1⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    iexists _; iexact H1

/-- Case B's pieces for output 1 tile its block (1 store of `S8x128`, checked by the kernel's evaluation: Lib/Ring.lean `Piece.tiledL`, linear in the pieces, through a loop's `@[irreducible]` trip theorem too), so they cover it. -/
theorem cover0_B_1 (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) (y : S8x128.Idx) :
    ∃ pc ∈ (kernelRun0_B c i arg1 harg1 arg2 harg2 hc0 hc1 x0 xo1).1, y ∈ pc.1.set :=
  View.cover_of_tiledL (kernelRun0_B c i arg1 harg1 arg2 harg2 hc0 hc1 x0 xo1).1 S8x128.size (by sl_kernel_rfl) y

/-- What case B leaves in output 1's staging buffer: its pieces read back over junk. -/
def out0_B_1 (c : Dev nD) (i : grid0.Coords) (arg1 : Memref sig .tc .vmem S512x5120 .bf16) (harg1 : arg1.IsWhole) (arg2 : Memref sig .tc .vmem S8x128 .f32) (harg2 : arg2.IsWhole) (hc0 : ¬cond0_0 i) (hc1 : cond0_1 i)
    (x0 : Vec F S512x5120 .bf16) (xo1 : Vec F S8x128 .f32) : Vec F S8x128 .f32 :=
  VO0_1.read (Elt F) (VO0_1.writes (Elt F) VO0_1.junk (kernelRun0_B c i arg1 harg1 arg2 harg2 hc0 hc1 x0 xo1).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S8x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 64 = 0 then
      if h1 : 1 ≤ (n + 1) then
        False.elim (by have hN : n + 1 < 64 := lt_of_lt_of_eq hn (show cfg0.N = 64 from N_0); omega)
      else
        out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : 1 ≤ (n + 1) then
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : ¬1 ≤ t.val) :
    outsAt0 V c t.val t.isLt = out0_A_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : 1 ≤ t.val) :
    outsAt0 V c t.val t.isLt = out0_B_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- Output 1's contents CARRY through the points that leave it idle: at such a point, its buffer not fresh, the proof data's
    `after` is the point before's (the case there stores nothing into the window and its term says so; a case that stores
    into it is not idle there by `liveAt0_1_κ`) — the hypothesis of Lib/Pipeline/TableIdle.lean `Dat.before_out_traj`. -/
theorem hcarry0_1 (c : Dev nD) : ∀ (t : Fin cfg0.N) (_ : t.val ≠ 0), cfg0.idle 1 (grid0.coords t) = true → cfg0.fresh 1 t.val = false →
    (dat0 V c).after 1 t = (dat0 V c).after 1 ⟨t.val - 1, by omega⟩ := by
  intro t _ hi _
  have hN : t.val < 64 := lt_of_lt_of_eq t.isLt (show cfg0.N = 64 from N_0)
  rw [after0_1, after0_1]
  by_cases h0 : t.val % 64 = 0
  · by_cases h1 : 1 ≤ t.val
    · exfalso; omega
    · rw [liveAt0_1_A t ((hcond0_0 t).mpr h0) (fun h => h1 ((hcond0_1 t).mp h))] at hi
      exact absurd hi Bool.false_ne_true
  · by_cases h1 : 1 ≤ t.val
    · rw [liveAt0_1_B t (fun h => h0 ((hcond0_0 t).mp h)) ((hcond0_1 t).mpr h1)] at hi
      exact absurd hi Bool.false_ne_true
    · exfalso; omega
/-- At a point of case B output 1's current staging buffer holds what the point before left: the buffer is not fresh
    there (`notFresh0_1_B`: stored into since the region's entry or the last write-back, carried through the points that
    leave it idle by `hcarry0_1`; Lib/Pipeline/TableIdle.lean `Dat.before_out_traj`). -/
theorem before0_1_B (c : Dev nD) (t : Fin cfg0.N) (h0 : ¬t.val % 64 = 0) (h1 : 1 ≤ t.val) (d) :
    (dat0 V c).before 1 t d = (outsAt0 V c (t.val - 1) (Nat.lt_of_le_of_lt (Nat.sub_le _ _) t.isLt)) := by
  rw [Dat.before_out_traj _ 1 rfl (fun _ _ => rfl) (hcarry0_1 V c) t.val t rfl d,
    if_neg (by rw [notFresh0_1_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val % 64 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_A t ((hcond0_0 t).mpr h0) (fun h => h1 ((hcond0_1 t).mp h))], after0_1]
      rw [outsAt0_A V c t h0 h1]
      unfold out0_A_1
      iintro ⟨HΦ, Ho, ⟨%d0, H0⟩, ⟨%d1, H1⟩⟩
      iapply ((kernelRun0_A c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
      rw [outsAt0_B V c t h0 h1]
      simp only [before0_1_B V c t h0 h1]
      unfold out0_B_1
      iintro ⟨HΦ, Ho, ⟨%d0, H0⟩, ⟨%d1, H1⟩⟩
      iapply ((kernelRun0_B c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_linear` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x1280 .bf16 := (Memref.whole cc1_stg4_0 : Memref sig .tc .vmem S512x1280 .bf16).view
/-- One staging buffer of output window 5, through which its contents are stated (`View.read_writes_of_cover`: the
    choice does not matter). -/
abbrev VO1_5 : View sig .tc .vmem S512x5120 .fp8e4m3 := (Memref.whole cc1_stg5_0 : Memref sig .tc .vmem S512x5120 .fp8e4m3).view
/-- One staging buffer of output window 6, through which its contents are stated (`View.read_writes_of_cover`: the
    choice does not matter). -/
abbrev VO1_6 : View sig .tc .vmem S8x128 .f32 := (Memref.whole cc1_stg6_0 : Memref sig .tc .vmem S8x128 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x5120 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x5120 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x5120 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) :
    Σ' (L4 : List (View.Piece (Elt F) S512x1280 .bf16)), Σ' (L5 : List (View.Piece (Elt F) S512x5120 .fp8e4m3)), { L6 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1_linear i arg1 harg1 arg2 harg2 arg3 harg3 arg4 harg4 arg5 harg5 arg6 harg6 arg7 harg7) K } := by
  refine ⟨?_, ?_, ?_, fun E K => ?run⟩
  case run =>
    simp only [cc1_linear_eq_skeleton]; unfold cc1_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-- The run's pieces for output 4 tile its block (1 store of `S512x1280`, checked by the kernel's evaluation: Lib/Ring.lean `Piece.tiledL`, linear in the pieces, through a loop's `@[irreducible]` trip theorem too), so they cover it. -/
theorem cover1_A_4 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S512x1280.Idx) :
    ∃ pc ∈ (kernelRun1_A c i arg1 harg1 arg2 harg2 arg3 harg3 arg4 harg4 arg5 harg5 arg6 harg6 arg7 harg7 x0 x1 x2 x3).1, y ∈ pc.1.set :=
  View.cover_of_tiledL (kernelRun1_A c i arg1 harg1 arg2 harg2 arg3 harg3 arg4 harg4 arg5 harg5 arg6 harg6 arg7 harg7 x0 x1 x2 x3).1 S512x1280.size (by sl_kernel_rfl) y

/-- What the run leaves in output 4's staging buffer: its pieces read back over junk. -/
def out1_A_4 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S512x1280 .bf16 :=
  VO1_4.read (Elt F) (VO1_4.writes (Elt F) VO1_4.junk (kernelRun1_A c i arg1 harg1 arg2 harg2 arg3 harg3 arg4 harg4 arg5 harg5 arg6 harg6 arg7 harg7 x0 x1 x2 x3).1)

/-- The run's pieces for output 5 tile its block (1 store of `S512x5120`, checked by the kernel's evaluation: Lib/Ring.lean `Piece.tiledL`, linear in the pieces, through a loop's `@[irreducible]` trip theorem too), so they cover it. -/
theorem cover1_A_5 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S512x5120.Idx) :
    ∃ pc ∈ (kernelRun1_A c i arg1 harg1 arg2 harg2 arg3 harg3 arg4 harg4 arg5 harg5 arg6 harg6 arg7 harg7 x0 x1 x2 x3).2.1, y ∈ pc.1.set :=
  View.cover_of_tiledL (kernelRun1_A c i arg1 harg1 arg2 harg2 arg3 harg3 arg4 harg4 arg5 harg5 arg6 harg6 arg7 harg7 x0 x1 x2 x3).2.1 S512x5120.size (by sl_kernel_rfl) y

/-- What the run leaves in output 5's staging buffer: its pieces read back over junk. -/
def out1_A_5 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S512x5120 .fp8e4m3 :=
  VO1_5.read (Elt F) (VO1_5.writes (Elt F) VO1_5.junk (kernelRun1_A c i arg1 harg1 arg2 harg2 arg3 harg3 arg4 harg4 arg5 harg5 arg6 harg6 arg7 harg7 x0 x1 x2 x3).2.1)

/-- The run's pieces for output 6 tile its block (1 store of `S8x128`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) (y : S8x128.Idx) :
    ∃ pc ∈ (kernelRun1_A c i arg1 harg1 arg2 harg2 arg3 harg3 arg4 harg4 arg5 harg5 arg6 harg6 arg7 harg7 x0 x1 x2 x3).2.2.1, y ∈ pc.1.set :=
  View.cover_of_tiledL (kernelRun1_A c i arg1 harg1 arg2 harg2 arg3 harg3 arg4 harg4 arg5 harg5 arg6 harg6 arg7 harg7 x0 x1 x2 x3).2.2.1 S8x128.size (by sl_kernel_rfl) y

/-- What the run leaves in output 6's staging buffer: its pieces read back over junk. -/
def out1_A_6 (c : Dev nD) (i : grid1.Coords) (arg1 : Memref sig .tc .smem S1x1 .f32) (harg1 : arg1.IsWhole) (arg2 : Memref sig .tc .vmem S8x128 .f32) (harg2 : arg2.IsWhole) (arg3 : Memref sig .tc .vmem S512x5120 .bf16) (harg3 : arg3.IsWhole) (arg4 : Memref sig .tc .vmem S1280x5120 .fp8e4m3) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S8x128 .f32) (harg7 : arg7.IsWhole)
    (x0 : Vec F S1x1 .f32) (x1 : Vec F S8x128 .f32) (x2 : Vec F S512x5120 .bf16) (x3 : Vec F S1280x5120 .fp8e4m3) : Vec F S8x128 .f32 :=
  VO1_6.read (Elt F) (VO1_6.writes (Elt F) VO1_6.junk (kernelRun1_A c i arg1 harg1 arg2 harg2 arg3 harg3 arg4 harg4 arg5 harg5 arg6 harg6 arg7 harg7 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S512x1280 .bf16 × Vec F S512x5120 .fp8e4m3 × Vec F S8x128 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_4 out1_A_5 out1_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters every weakly fair execution of @main terminates without a
    fault, with every unscoped buffer at `W5` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- THE FRAME: from any memory with zero counters every weakly fair execution of @main terminates without a fault, with
    the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Run

end
-- ==== Proof.MaxFold.lean ====
/- Maxima over the extended reals as suprema: a reduction over some of an array's axes, a reshape and a host reduction all keep
   the supremum of an array. -/
module

public import Idealize.ShloMosaic.PureOps.Ideal.Laws
public import Idealize.ShloMosaic.PureOps.Reduce

@[expose] public section

noncomputable section

namespace Cert.MaxFold

open Idealize.ShloMosaic

variable {s t : Shape} {φ : FTy}

/-- The magnitude of an extended real. -/
abbrev mag (x : EReal) : EReal := max x (-x)

/-- A fold of the maximum from the least element is a supremum. -/
theorem fold_max (S : Finset s.Idx) (f : s.Idx → EReal) :
    S.fold (FloatOps.maximumf (F := Ideal) (φ := φ)) (⊥ : EReal) f = ⨆ i ∈ S, f i :=
  (show S.fold (FloatOps.maximumf (F := Ideal) (φ := φ)) (⊥ : EReal) f = S.sup f from rfl).trans (Finset.sup_eq_iSup S f)

/-- The suprema over the fibers of a map have the supremum over its domain. -/
theorem iSup_fiber {α β : Type} [Fintype α] [DecidableEq β] (d : α → β) (f : α → EReal) :
    (⨆ j, ⨆ i ∈ Finset.univ.filter (fun i => d i = j), f i) = ⨆ i, f i :=
  le_antisymm (iSup_le fun _ => iSup_le fun i => iSup_le fun _ => le_iSup f i)
    (iSup_le fun i => le_iSup_of_le (d i) (le_iSup₂_of_le i (by simp) le_rfl))

/-- A maximum over some axes keeps the supremum. -/
theorem iSup_multiReduction {axes : List (Fin s.rank)} (src : FVec Ideal s φ) (acc : BitVec φ.bits) (h : s.Reduces axes t)
    (hφ : FKind.Formats φ) (hacc : acc = FKind.maximumf.neutral φ hφ) (hbot : Ideal.ofBits φ acc = ⊥) :
    (⨆ j, multiReduction .maximumf axes t src acc h hφ hacc j) = ⨆ i, src i := by
  have e : ∀ j, multiReduction .maximumf axes t src acc h hφ hacc j
      = ⨆ i ∈ Finset.univ.filter (fun i => h.drop i = j), src i := fun j => by
    rw [multiReduction_maximumf_eq_fold]
    show Finset.fold (FloatOps.maximumf (F := Ideal) (φ := φ)) (Ideal.ofBits φ acc) src _ = _
    rw [hbot, fold_max]
  simp only [e]
  exact iSup_fiber h.drop src

/-- A reshape keeps the supremum. -/
theorem iSup_shapeCast (x : s.Idx → EReal) (h : s.ShapeCasts t) : (⨆ j, shapeCast t x h j) = ⨆ i, x i :=
  (Shape.reshapeEquiv h).iSup_comp (g := x)

/-- A host maximum over all axes is the supremum. -/
theorem hostReduce_max {u : Shape} {axes : List (Fin s.rank)} (x : FVec Ideal s φ) (init : FVec Ideal u φ)
    (h : s.ReducesTo axes t) (hu : 0 < u.numel) (hbot : init (Shape.Idx.first hu) = ⊥) [Subsingleton t.Idx] (j : t.Idx) :
    Host.reduce FloatOps.maximumf x init h hu j = ⨆ i, x i := by
  rw [Host.reduce_eq_fold, hbot, fold_max]
  exact le_antisymm (iSup_le fun i => iSup_le fun _ => le_iSup x i)
    (iSup_le fun i => le_iSup₂_of_le i (by simp [Subsingleton.elim _ j]) le_rfl)

/-- Where an index type has one element, an element is the supremum. -/
theorem iSup_eq_of_subsingleton {α : Type} [Subsingleton α] (f : α → EReal) (j : α) : (⨆ i, f i) = f j :=
  le_antisymm (iSup_le fun i => (congrArg f (Subsingleton.elim i j)).le) (le_iSup f j)

theorem ofBits_bf16_bot : Ideal.ofBits .bf16 0xFF80#16 = ⊥ := by simp [Ideal.ofBits, Ideal.ieee]

theorem ofBits_f32_bot : Ideal.ofBits .f32 0xFF800000#32 = ⊥ := by simp [Ideal.ofBits, Ideal.ieee]

end Cert.MaxFold

end
-- ==== Proof.KernelAmax.lean ====
/- What the first region of `KernelIdeal` leaves: every element of its result is the largest magnitude of its operand. -/
module

public import proofs.«01_k».proof.Proof.FrameIdeal
public import proofs.«01_k».proof.Proof.MaxFold
public import Idealize.ShloMosaic.Lib.Pipeline.Value
public import Idealize.ShloMosaic.Lib.Pipeline.ValueKit.Geometry
public import Idealize.ShloMosaic.Lib.Tactic

@[expose] public section

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run Cert.MaxFold

theorem hz : (![0, 0] : Fin 2 → Nat) = fun _ => 0 := funext fun a => by fin_cases a <;> rfl

section Body
variable {F : FTy → Type} [FloatOps F]

/-- The first point's body leaves the block's maximum. -/
theorem out0_A (c : Dev nD) (i : grid0.Coords) (a1 : Memref sig .tc .vmem S512x5120 .bf16) (h1 : a1.IsWhole)
    (a2 : Memref sig .tc .vmem S8x128 .f32) (h2 : a2.IsWhole) (hc0 : cond0_0 i) (hc1 : ¬cond0_1 i) (x : Vec F S512x5120 .bf16) :
    out0_A_1 c i a1 h1 a2 h2 hc0 hc1 x = k0_pay1 x := by
  unfold out0_A_1
  rw [View.read_writes_eq_canon _ _ _ (cover0_A_1 c i a1 h1 a2 h2 hc0 hc1 x)]
  unfold kernelRun0_A
  dsimp only
  rw [View.canon_unit_zero hz]
  simp only [View.readAt_eq_ld, h1.read_unread, View.ld_unit_zero (S := S512x5120) hz]

/-- A later point's body leaves the maximum of what the output held and of the block's. -/
theorem out0_B (c : Dev nD) (i : grid0.Coords) (a1 : Memref sig .tc .vmem S512x5120 .bf16) (h1 : a1.IsWhole)
    (a2 : Memref sig .tc .vmem S8x128 .f32) (h2 : a2.IsWhole) (hc0 : ¬cond0_0 i) (hc1 : cond0_1 i) (x : Vec F S512x5120 .bf16)
    (xo : Vec F S8x128 .f32) : out0_B_1 c i a1 h1 a2 h2 hc0 hc1 x xo = k0_pay2 x xo := by
  unfold out0_B_1
  rw [View.read_writes_eq_canon _ _ _ (cover0_B_1 c i a1 h1 a2 h2 hc0 hc1 x xo)]
  unfold kernelRun0_B
  dsimp only
  rw [View.canon_unit_zero hz]
  simp only [View.readAt_eq_ld, h1.read_unread, h2.read_unread, View.ld_unit_zero (S := S512x5120) hz, View.ld_unit_zero (S := S8x128) hz]

end Body

instance : Subsingleton S1.Idx := ⟨fun a b => funext fun k => by
  fin_cases k; exact Subsingleton.elim (α := Fin 1) _ _⟩
instance : Subsingleton S1x1.Idx := ⟨fun a b => funext fun k => by
  fin_cases k <;> exact Subsingleton.elim (α := Fin 1) _ _⟩

/-- The three reductions of a block each keep the supremum: over the groups of rows, -/
theorem red_groups (x : FVec Ideal S32x16x5120 .bf16) :
    (⨆ j, multiReduction .maximumf [0] S16x5120 x 0xFF80#16 reduces_S32x16x5120_S16x5120 (.inr rfl) rfl j) = ⨆ i, x i :=
  iSup_multiReduction x _ reduces_S32x16x5120_S16x5120 (.inr rfl) rfl ofBits_bf16_bot

/-- over the rows of a group, -/
theorem red_rows (x : FVec Ideal S16x5120 .f32) :
    (⨆ j, multiReduction .maximumf [0] S5120 x 0xFF800000#32 reduces_S16x5120_S5120 (.inl rfl) rfl j) = ⨆ i, x i :=
  iSup_multiReduction x _ reduces_S16x5120_S5120 (.inl rfl) rfl ofBits_f32_bot

/-- and over the columns. -/
theorem red_cols (x : FVec Ideal S1x5120 .f32) :
    (⨆ j, multiReduction .maximumf [1] S1 x 0xFF800000#32 reduces_S1x5120_S1 (.inl rfl) rfl j) = ⨆ i, x i :=
  iSup_multiReduction x _ reduces_S1x5120_S1 (.inl rfl) rfl ofBits_f32_bot

/-- The block's maximum, at every element: the supremum of the block's magnitudes. -/
theorem pay1_eq (x : Vec Ideal S512x5120 .bf16) (j : S8x128.Idx) : k0_pay1 (F := Ideal) x j = ⨆ i, mag (x i) := by
  obtain ⟨v3, e3⟩ : ∃ v : FVec Ideal S32x16x5120 .bf16, v = shapeCast S32x16x5120
    (absf (F := Ideal) (φ := .bf16) (shapeCast S512x5120 x shapeCasts_S512x5120_S512x5120)) shapeCasts_S512x5120_S32x16x5120 := ⟨_, rfl⟩
  obtain ⟨v4, e4⟩ : ∃ v : FVec Ideal S16x5120 .bf16, v
    = multiReduction .maximumf [0] S16x5120 v3 0xFF80#16 reduces_S32x16x5120_S16x5120 (.inr rfl) rfl := ⟨_, rfl⟩
  obtain ⟨v6, e6⟩ : ∃ v : FVec Ideal S5120 .f32, v
    = multiReduction .maximumf [0] S5120 (extf (F := Ideal) (φ := .bf16) .f32 v4 bitsLt_bf16_f32) 0xFF800000#32 reduces_S16x5120_S5120 (.inl rfl) rfl := ⟨_, rfl⟩
  obtain ⟨v8, e8⟩ : ∃ v : FVec Ideal S1 .f32, v
    = multiReduction .maximumf [1] S1 (shapeCast S1x5120 v6 shapeCasts_S5120_S1x5120 : FVec Ideal S1x5120 .f32) 0xFF800000#32
        reduces_S1x5120_S1 (.inl rfl) rfl := ⟨_, rfl⟩
  have e : k0_pay1 (F := Ideal) x = broadcastTo S8x128 (shapeCast S1x1 (shapeCast S1x1 v8 shapeCasts_S1_S1x1) shapeCasts_S1x1_S1x1)
      broadcasts_S1x1_S8x128 := by
    subst e8 e6 e4 e3
    rfl
  rw [e]
  unfold broadcastTo
  refine (iSup_eq_of_subsingleton (α := S1x1.Idx) _ _).symm.trans ?_
  rw [iSup_shapeCast, iSup_shapeCast]
  have r8 : (⨆ i, v8 i) = ⨆ i, v6 i := by rw [e8, red_cols, iSup_shapeCast]
  have r6 : (⨆ i, v6 i) = ⨆ i, v4 i := by rw [e6, red_rows]; rfl
  have r4 : (⨆ i, v4 i) = ⨆ i, v3 i := by rw [e4, red_groups]
  rw [r8, r6, r4, e3, iSup_shapeCast, shapeCast_self]
  rfl

/-- A later point's, likewise. -/
theorem pay2_eq (x : Vec Ideal S512x5120 .bf16) (xo : Vec Ideal S8x128 .f32) (j : S8x128.Idx) :
    k0_pay2 (F := Ideal) x xo j = max (xo j) (⨆ i, mag (x i)) := by
  unfold k0_pay2
  rw [shapeCast_self]
  show max (xo j) (k0_pay1 (F := Ideal) x j) = _
  rw [pay1_eq]

variable (V : (c : Dev nD) → (b : Ref sig .tc) → Buf (Elt Ideal) ((c : Thread nD τ).loc b))

/-- After point `n` the output holds, at every element, the supremum of the magnitudes of the blocks up to `n`. -/
theorem outsAt0_eq (c : Dev nD) : ∀ (n : ℕ) (hn : n < cfg0.N) (j : S8x128.Idx),
    outsAt0 V c n hn j = ⨆ t : Fin cfg0.N, ⨆ _ : t.val ≤ n, ⨆ i, mag ((iblk0 V c 0 t : Vec Ideal S512x5120 .bf16) i)
  | 0, hn, j => by
    refine (congrFun ((outsAt0_A V c ⟨0, hn⟩ rfl (Nat.not_succ_le_zero 0)).trans (out0_A ..)) j).trans ((pay1_eq _ j).trans ?_)
    refine le_antisymm (le_iSup₂_of_le ⟨0, hn⟩ le_rfl le_rfl) (iSup₂_le fun t ht => ?_)
    obtain rfl : t = ⟨0, hn⟩ := Fin.ext (Nat.le_zero.1 ht)
    exact le_rfl
  | n + 1, hn, j => by
    have hN : cfg0.N = 64 := N_0
    have hB : ¬(⟨n + 1, hn⟩ : Fin cfg0.N).val % 64 = 0 := by dsimp only; omega
    refine (congrFun ((outsAt0_B V c ⟨n + 1, hn⟩ hB (by dsimp only; omega)).trans (out0_B ..)) j).trans ((pay2_eq _ _ j).trans ?_)
    have ih := outsAt0_eq c n (Nat.lt_of_succ_lt hn) j
    show max (outsAt0 V c n _ j) _ = _
    rw [ih]
    refine le_antisymm (max_le (iSup₂_le fun t ht => le_iSup₂_of_le t (Nat.le_succ_of_le ht) le_rfl)
      (le_iSup₂_of_le ⟨n + 1, hn⟩ le_rfl le_rfl)) (iSup₂_le fun t ht => ?_)
    rcases Nat.lt_or_ge t.val (n + 1) with h | h
    · exact le_max_of_le_left (le_iSup₂_of_le t (Nat.lt_succ_iff.1 h) le_rfl)
    · obtain rfl : t = ⟨n + 1, hn⟩ := Fin.ext (le_antisymm ht h)
      exact le_max_right _ _

/-- The block of point `t` in the operand. -/
theorem iblk0_apply (c : Dev nD) (t : Fin cfg0.N) (i : S512x5120.Idx) :
    (iblk0 V c 0 t : Vec Ideal S512x5120 .bf16) i = V c main_v0 ((win0_0.blk t).view.emb i) := rfl

/-- The blocks of the operand cover it. -/
theorem iblk0_iSup (c : Dev nD) :
    (⨆ t : Fin cfg0.N, ⨆ i, mag ((iblk0 V c 0 t : Vec Ideal S512x5120 .bf16) i)) = ⨆ i : S32768x5120.Idx, mag (V c main_v0 i) := by
  have hN : cfg0.N = 64 := N_0
  refine le_antisymm (iSup_le fun t => iSup_le fun i => le_iSup (fun i : S32768x5120.Idx => mag (V c main_v0 i)) _)
    (iSup_le fun i => ?_)
  have hi0 : (i 0 : ℕ) < 32768 := (i 0).isLt
  have hi1 : (i 1 : ℕ) < 5120 := (i 1).isLt
  let t : Fin cfg0.N := ⟨(i 0 : ℕ) / 512, by omega⟩
  let y : S512x5120.Idx := fun
    | 0 => ⟨(i 0 : ℕ) % 512, Nat.mod_lt _ (by decide)⟩
    | 1 => ⟨(i 1 : ℕ), hi1⟩
  refine le_iSup_of_le t (le_iSup_of_le y (le_of_eq ?_))
  rw [iblk0_apply]
  have e : ∀ t : Fin cfg0.N, win0_0.index t = ![t.val, 0] := by decide +kernel
  have hy : (win0_0.blk t).view.emb y = i := by
    have ht : t.val = (i 0 : ℕ) / 512 := rfl
    have hy0 : (y 0 : ℕ) = (i 0 : ℕ) % 512 := rfl
    have hy1 : (y 1 : ℕ) = (i 1 : ℕ) := rfl
    clear_value t y
    blk_ext [e] <;> omega
  rw [hy]

/-- The first region's result: every element the supremum of the operand's magnitudes. -/
theorem amax_eq (c : Dev nD) (j : S8x128.Idx) :
    ((dat0 V c).arrAt 1 cfg0.N : Vec Ideal S8x128 .f32) j = ⨆ i : S32768x5120.Idx, mag (V c main_v0 i) := by
  have hN : cfg0.N = 64 := N_0
  refine congrFun (((dat0 V c).arrAt_eq_of_after_last 1 ⟨63, by rw [show cfg0.N = 64 from N_0]; decide⟩ (by decide +kernel)
    (fun _ : S8x128.Idx => (⨆ i : S32768x5120.Idx, mag (V c main_v0 i) : EReal)) fun j => ?_)) j
  refine (congrFun (after0_1 V c ⟨63, by omega⟩) _).trans ?_
  refine (outsAt0_eq V c 63 _ _).trans (Eq.trans ?_ (iblk0_iSup V c))
  exact iSup_congr fun t => iSup_pos (by have := t.isLt; omega)

end Cert.KernelIdeal.Value

end
-- ==== Proof.Exponent.lean ====
/- The exponent of the quantisation scale, as one number: the kernel's search for the exponent field of a float among the
   powers of two, the powers of two it then assembles from their bits, and the reference's `⌊log₂⌋ + 1` with its powers
   of two. Over the extended reals the two agree when the largest magnitude is zero, or is a float whose quotient by 448 is
   normal. -/
module

public import Idealize.ShloMosaic.PureOps.Ideal.Laws
public import Mathlib.Analysis.SpecialFunctions.Log.Basic

@[expose] public section

noncomputable section

namespace Cert.Exponent

open Idealize.ShloMosaic

/-! ## Powers of two by their bits -/

/-- The float whose exponent field is `c` and whose other bits are zero. -/
def power (c : BitVec 32) : EReal := Ideal.ofBits .f32 (IntOp.shli .vector c 23#32)

/-- A pattern with clear sign bit, exponent field `n` and no other bit set denotes `2 ^ (n - 127)`. -/
theorem ieee_power (b : BitVec 32) (n : ℕ) (h₁ : 1 ≤ n) (h₂ : n ≤ 254) (hs : b.extractLsb' 31 1 = 0#1)
    (hex : (b.extractLsb' 23 8).toNat = n) (hfr : (b.extractLsb' 0 23).toNat = 0) :
    Ideal.ofBits .f32 b = (((2 : ℝ) ^ ((n : ℤ) - 127) : ℝ) : EReal) := by
  have key : Ideal.ofBits .f32 b = Ideal.ieee 8 23 b := rfl
  rw [key]
  unfold Ideal.ieee
  simp only [Nat.reduceAdd, hs, hex, hfr]
  rw [if_neg (by omega), if_neg (by omega)]
  have e : ((n : ℤ) - (2 ^ (8 - 1) - 1) - ((23 : ℕ) : ℤ)) = ((n : ℤ) - 127) + (-23) := by norm_num; ring
  rw [e, zpow_add₀ (by norm_num)]
  refine congrArg (fun r : ℝ => (r : EReal)) ?_
  norm_num
  ring

/-- It is `2 ^ (n - 127)` for a field `n` of a normal float. -/
theorem power_ofNat (n : ℕ) (h₁ : 1 ≤ n) (h₂ : n ≤ 254) :
    power (BitVec.ofNat 32 n) = (((2 : ℝ) ^ ((n : ℤ) - 127) : ℝ) : EReal) := by
  have hs : IntOp.shli .vector (BitVec.ofNat 32 n) 23#32 = BitVec.ofNat 32 n <<< 23 := by
    unfold IntOp.shli; rw [if_pos (by decide)]; rfl
  rw [power, hs]
  refine ieee_power _ n h₁ h₂ ?_ ?_ ?_
  · apply BitVec.eq_of_toNat_eq
    simp [BitVec.extractLsb'_toNat, BitVec.toNat_shiftLeft, Nat.shiftLeft_eq, Nat.shiftRight_eq_div_pow]
    omega
  · simp [BitVec.extractLsb'_toNat, BitVec.toNat_shiftLeft, Nat.shiftLeft_eq, Nat.shiftRight_eq_div_pow]
    omega
  · simp [BitVec.extractLsb'_toNat, BitVec.toNat_shiftLeft, Nat.shiftLeft_eq, Nat.shiftRight_eq_div_pow]

/-! ## The search -/

/-- One step: the candidate with the bit set is taken unless `t` lies below its power of two. -/
def step (t : EReal) (c bit : BitVec 32) : BitVec 32 :=
  Scalar.select (Ideal.cmp .olt t (power (IntOp.addi c bit))) c (IntOp.addi c bit)

/-- The exponent field found bit by bit from the top. -/
def field (t : EReal) : BitVec 32 :=
  step t (step t (step t (step t (step t (step t (step t (step t 0#32 128#32) 64#32) 32#32) 16#32) 8#32) 4#32) 2#32) 1#32

/-- One step over numbers, where `t` lies below the powers of two of the fields above `n` and of no others. -/
theorem step_ofNat (t : EReal) (n c b : ℕ) (hc : c + b ≤ 254) (hb : 1 ≤ b)
    (h : ∀ k : ℕ, 1 ≤ k → k ≤ 254 → (t < (((2 : ℝ) ^ ((k : ℤ) - 127) : ℝ) : EReal) ↔ n < k)) :
    step t (BitVec.ofNat 32 c) (BitVec.ofNat 32 b) = BitVec.ofNat 32 (if n < c + b then c else c + b) := by
  have hadd : IntOp.addi (BitVec.ofNat 32 c) (BitVec.ofNat 32 b) = BitVec.ofNat 32 (c + b) := (BitVec.ofNat_add _ _).symm
  unfold step
  rw [hadd, power_ofNat _ (by omega) hc]
  have := h (c + b) (by omega) hc
  unfold Scalar.select Ideal.cmp
  by_cases hlt : n < c + b
  · simp only [decide_eq_true (this.2 hlt), hlt, if_true]
    rfl
  · have : ¬ t < (((2 : ℝ) ^ (((c + b : ℕ) : ℤ) - 127) : ℝ) : EReal) := fun q => hlt (this.1 q)
    simp only [decide_eq_false this, hlt, if_false]
    rfl

/-- The search finds `n ≤ 253`, where `t` lies below the powers of two of the fields above `n` and of no others. -/
theorem field_eq (t : EReal) (n : ℕ) (hn : n ≤ 253)
    (h : ∀ k : ℕ, 1 ≤ k → k ≤ 254 → (t < (((2 : ℝ) ^ ((k : ℤ) - 127) : ℝ) : EReal) ↔ n < k)) :
    field t = BitVec.ofNat 32 n := by
  unfold field
  rw [show (0#32) = BitVec.ofNat 32 0 from rfl]
  rw [step_ofNat t n 0 128 (by omega) (by omega) h]
  obtain ⟨c1, hc1, l1, u1, m1⟩ : ∃ c, c = (if n < 0 + 128 then 0 else 0 + 128) ∧ c ≤ n ∧ n < c + 128 ∧ c ≤ 128 :=
    ⟨_, rfl, by split_ifs <;> omega, by split_ifs <;> omega, by split_ifs <;> omega⟩
  rw [← hc1]
  clear hc1
  rw [step_ofNat t n c1 64 (by omega) (by omega) h]
  obtain ⟨c2, hc2, l2, u2, m2⟩ : ∃ c, c = (if n < c1 + 64 then c1 else c1 + 64) ∧ c ≤ n ∧ n < c + 64 ∧ c ≤ 192 :=
    ⟨_, rfl, by split_ifs <;> omega, by split_ifs <;> omega, by split_ifs <;> omega⟩
  rw [← hc2]
  clear hc2
  rw [step_ofNat t n c2 32 (by omega) (by omega) h]
  obtain ⟨c3, hc3, l3, u3, m3⟩ : ∃ c, c = (if n < c2 + 32 then c2 else c2 + 32) ∧ c ≤ n ∧ n < c + 32 ∧ c ≤ 224 :=
    ⟨_, rfl, by split_ifs <;> omega, by split_ifs <;> omega, by split_ifs <;> omega⟩
  rw [← hc3]
  clear hc3
  rw [step_ofNat t n c3 16 (by omega) (by omega) h]
  obtain ⟨c4, hc4, l4, u4, m4⟩ : ∃ c, c = (if n < c3 + 16 then c3 else c3 + 16) ∧ c ≤ n ∧ n < c + 16 ∧ c ≤ 240 :=
    ⟨_, rfl, by split_ifs <;> omega, by split_ifs <;> omega, by split_ifs <;> omega⟩
  rw [← hc4]
  clear hc4
  rw [step_ofNat t n c4 8 (by omega) (by omega) h]
  obtain ⟨c5, hc5, l5, u5, m5⟩ : ∃ c, c = (if n < c4 + 8 then c4 else c4 + 8) ∧ c ≤ n ∧ n < c + 8 ∧ c ≤ 248 :=
    ⟨_, rfl, by split_ifs <;> omega, by split_ifs <;> omega, by split_ifs <;> omega⟩
  rw [← hc5]
  clear hc5
  rw [step_ofNat t n c5 4 (by omega) (by omega) h]
  obtain ⟨c6, hc6, l6, u6, m6⟩ : ∃ c, c = (if n < c5 + 4 then c5 else c5 + 4) ∧ c ≤ n ∧ n < c + 4 ∧ c ≤ 252 :=
    ⟨_, rfl, by split_ifs <;> omega, by split_ifs <;> omega, by split_ifs <;> omega⟩
  rw [← hc6]
  clear hc6
  rw [step_ofNat t n c6 2 (by omega) (by omega) h]
  obtain ⟨c7, hc7, l7, u7, m7⟩ : ∃ c, c = (if n < c6 + 2 then c6 else c6 + 2) ∧ c ≤ n ∧ n < c + 2 ∧ c ≤ 254 :=
    ⟨_, rfl, by split_ifs <;> omega, by split_ifs <;> omega, by split_ifs <;> omega⟩
  rw [← hc7]
  clear hc7
  rw [step_ofNat t n c7 1 (by omega) (by omega) h]
  congr 1
  split_ifs <;> omega

/-! ## The scale, as the kernel and as the reference state it -/

/-- The float nearest to `1 / 448`. -/
def recip : EReal := Ideal.ofBits .f32 0x3B124925#32

/-- The kernel's exponent of the scale for the largest magnitude `a`. -/
def kExp (a : EReal) : BitVec 32 :=
  Scalar.select (IntOp.cmpi .eq (field (a * recip)) 0#32) 0#32 (IntOp.subi (field (a * recip)) 126#32)

/-- The kernel's scale, -/
def kScale (a : EReal) : EReal := power (IntOp.addi (kExp a) 127#32)

/-- and its inverse. -/
def kInv (a : EReal) : EReal := power (IntOp.addi (IntOp.subi 0#32 (kExp a)) 127#32)

/-- The reference's exponent of the scale. -/
def rExp (a : EReal) : EReal :=
  Scalar.select (Ideal.cmp .oeq a (Ideal.ofBits .f32 0x00000000#32)) (Ideal.ofBits .f32 0x00000000#32)
    (Ideal.liftRound Int.floor (Ideal.div (Ideal.log (a * recip)) (Ideal.log (Ideal.ofBits .f32 0x40000000#32)))
      + Ideal.ofBits .f32 0x3F800000#32)

/-- The reference's scale, -/
def rScale (a : EReal) : EReal := Ideal.pow (Ideal.ofBits .f32 0x40000000#32) (rExp a)

/-- and its inverse. -/
def rInv (a : EReal) : EReal := Ideal.pow (Ideal.ofBits .f32 0x40000000#32) (-rExp a)

/-- What the precondition says of the largest magnitude. -/
def InRange (a : EReal) : Prop := a = 0 ∨ (Ideal.ofBits .f32 0x04E00000#32 ≤ a ∧ a ≤ Ideal.ofBits .f32 0x7F7F0000#32)

/-- What a pattern of a positive normal float denotes. -/
theorem ieee_normal (b : BitVec 32) (ex fr : ℕ) (h₁ : 1 ≤ ex) (h₂ : ex ≤ 254) (hs : b.extractLsb' 31 1 = 0#1)
    (hex : (b.extractLsb' 23 8).toNat = ex) (hfr : (b.extractLsb' 0 23).toNat = fr) :
    Ideal.ofBits .f32 b = ((((8388608 + fr : ℕ) : ℝ) * (2 : ℝ) ^ ((ex : ℤ) - 150) : ℝ) : EReal) := by
  have key : Ideal.ofBits .f32 b = Ideal.ieee 8 23 b := rfl
  rw [key]
  unfold Ideal.ieee
  simp only [Nat.reduceAdd, hs, hex, hfr]
  rw [if_neg (by omega), if_neg (by omega)]
  have e : ((ex : ℤ) - (2 ^ (8 - 1) - 1) - ((23 : ℕ) : ℤ)) = (ex : ℤ) - 150 := by norm_num; ring
  rw [e]
  refine congrArg (fun r : ℝ => (r : EReal)) ?_
  norm_num

theorem recip_eq : recip = ((9586981 * (2 : ℝ) ^ (-32 : ℤ) : ℝ) : EReal) :=
  (ieee_normal _ 118 1198373 (by decide) (by decide) (by decide) (by decide) (by decide)).trans
    (congrArg (fun r : ℝ => (r : EReal)) (by norm_num))

theorem low_eq : Ideal.ofBits .f32 0x04E00000#32 = ((7 * (2 : ℝ) ^ (-120 : ℤ) : ℝ) : EReal) :=
  (ieee_normal _ 9 6291456 (by decide) (by decide) (by decide) (by decide) (by decide)).trans
    (congrArg (fun r : ℝ => (r : EReal)) (by norm_num))

theorem high_eq : Ideal.ofBits .f32 0x7F7F0000#32 = ((255 * (2 : ℝ) ^ (120 : ℤ) : ℝ) : EReal) :=
  (ieee_normal _ 254 8323072 (by decide) (by decide) (by decide) (by decide) (by decide)).trans
    (congrArg (fun r : ℝ => (r : EReal)) (by norm_num))

theorem one_eq : Ideal.ofBits .f32 0x3F800000#32 = ((1 : ℝ) : EReal) :=
  (ieee_normal _ 127 0 (by decide) (by decide) (by decide) (by decide) (by decide)).trans
    (congrArg (fun r : ℝ => (r : EReal)) (by norm_num))

theorem two_eq : Ideal.ofBits .f32 0x40000000#32 = ((2 : ℝ) : EReal) :=
  (ieee_normal _ 128 0 (by decide) (by decide) (by decide) (by decide) (by decide)).trans
    (congrArg (fun r : ℝ => (r : EReal)) (by norm_num))

theorem zero_eq : Ideal.ofBits .f32 0x00000000#32 = ((0 : ℝ) : EReal) := by
  simp [Ideal.ofBits, Ideal.ieee]

/-- The powers of two the reference raises. -/
theorem pow_two (n : ℤ) : Ideal.pow ((2 : ℝ) : EReal) ((n : ℝ) : EReal) = (((2 : ℝ) ^ n : ℝ) : EReal) := by
  show ((Real.rpow 2 (n : ℝ) : ℝ) : EReal) = _
  rw [Real.rpow_eq_pow, Real.rpow_intCast]

/-- A magnitude in range other than zero is a real between two powers of two, its quotient by 448 likewise. -/
theorem InRange.binade {a : EReal} (h : InRange a) (h0 : a ≠ 0) :
    ∃ (t : ℝ) (k : ℤ), a * recip = (t : EReal) ∧ (2 : ℝ) ^ k ≤ t ∧ t < (2 : ℝ) ^ (k + 1) ∧ -126 ≤ k ∧ k ≤ 119 := by
  obtain h | ⟨hl, hu⟩ := h
  · exact absurd h h0
  rw [low_eq] at hl
  rw [high_eq] at hu
  have hb : a ≠ ⊥ := fun e => EReal.coe_ne_bot _ (le_bot_iff.1 (e ▸ hl))
  have ht : a ≠ ⊤ := fun e => EReal.coe_ne_top _ (top_le_iff.1 (e ▸ hu))
  lift a to ℝ using ⟨ht, hb⟩
  have hl : (7 * (2 : ℝ) ^ (-120 : ℤ) : ℝ) ≤ a := EReal.coe_le_coe_iff.1 hl
  have hu : a ≤ (255 * (2 : ℝ) ^ (120 : ℤ) : ℝ) := EReal.coe_le_coe_iff.1 hu
  have hlow : (2 : ℝ) ^ (-126 : ℤ) ≤ a * (9586981 * (2 : ℝ) ^ (-32 : ℤ)) := by
    refine le_trans ?_ (mul_le_mul_of_nonneg_right hl (by positivity))
    norm_num
  have hhigh : a * (9586981 * (2 : ℝ) ^ (-32 : ℤ)) < (2 : ℝ) ^ (120 : ℤ) := by
    refine lt_of_le_of_lt (mul_le_mul_of_nonneg_right hu (by positivity)) ?_
    norm_num
  have hpos : 0 < a * (9586981 * (2 : ℝ) ^ (-32 : ℤ)) := lt_of_lt_of_le (by positivity) hlow
  obtain ⟨k, hk, hk'⟩ := exists_mem_Ico_zpow hpos (one_lt_two (α := ℝ))
  refine ⟨_, k, by rw [recip_eq, ← EReal.coe_mul], hk, hk', ?_, ?_⟩
  · have := (zpow_lt_zpow_iff_right₀ (one_lt_two (α := ℝ))).1 (lt_of_le_of_lt hlow hk')
    omega
  · have := (zpow_lt_zpow_iff_right₀ (one_lt_two (α := ℝ))).1 (lt_of_le_of_lt hk hhigh)
    omega

/-- In range the kernel's exponent, its scale and the inverse, and the reference's exponent, are those of one integer. -/
theorem InRange.exists_exp {a : EReal} (h : InRange a) :
    ∃ n : ℤ, kScale a = (((2 : ℝ) ^ n : ℝ) : EReal) ∧ kInv a = (((2 : ℝ) ^ (-n) : ℝ) : EReal)
      ∧ rExp a = ((n : ℝ) : EReal) := by
  by_cases h0 : a = 0
  · refine ⟨0, ?_, ?_, ?_⟩
    · have hf : field (a * recip) = BitVec.ofNat 32 0 := by
        refine field_eq _ 0 (by omega) fun k h1 _ => ?_
        rw [h0, zero_mul, ← EReal.coe_zero, EReal.coe_lt_coe_iff]
        exact ⟨fun _ => h1, fun _ => by positivity⟩
      unfold kScale kExp
      rw [hf, show IntOp.addi (Scalar.select (IntOp.cmpi .eq (BitVec.ofNat 32 0) 0#32) 0#32 (IntOp.subi (BitVec.ofNat 32 0) 126#32)) 127#32
        = BitVec.ofNat 32 127 from by decide, power_ofNat _ (by omega) (by omega)]
      norm_num
    · have hf : field (a * recip) = BitVec.ofNat 32 0 := by
        refine field_eq _ 0 (by omega) fun k h1 _ => ?_
        rw [h0, zero_mul, ← EReal.coe_zero, EReal.coe_lt_coe_iff]
        exact ⟨fun _ => h1, fun _ => by positivity⟩
      unfold kInv kExp
      rw [hf, show IntOp.addi (IntOp.subi 0#32 (Scalar.select (IntOp.cmpi .eq (BitVec.ofNat 32 0) 0#32) 0#32 (IntOp.subi (BitVec.ofNat 32 0) 126#32))) 127#32
        = BitVec.ofNat 32 127 from by decide, power_ofNat _ (by omega) (by omega)]
      norm_num
    · unfold rExp Scalar.select Ideal.cmp
      rw [zero_eq, h0]
      simp
  · obtain ⟨t, k, ht, hk, hk', hlo, hhi⟩ := h.binade h0
    obtain ⟨b, hb⟩ : ∃ b : ℕ, (b : ℤ) = k + 127 := ⟨(k + 127).toNat, by omega⟩
    have hpos : 0 < t := lt_of_lt_of_le (by positivity) hk
    have hf : field (a * recip) = BitVec.ofNat 32 b := by
      refine field_eq _ b (by omega) fun j h1 _ => ?_
      rw [ht, EReal.coe_lt_coe_iff]
      constructor
      · intro q
        have := (zpow_lt_zpow_iff_right₀ (one_lt_two (α := ℝ))).1 (lt_of_le_of_lt hk q)
        omega
      · intro q
        exact lt_of_lt_of_le hk' (zpow_le_zpow_right₀ (one_le_two (α := ℝ)) (by omega))
    have hn0 : IntOp.cmpi .eq (BitVec.ofNat 32 b) 0#32 = 0#1 := by
      unfold IntOp.cmpi
      have : (BitVec.ofNat 32 b == 0#32) = false := by
        rw [beq_eq_false_iff_ne]
        intro e
        have := congrArg BitVec.toNat e
        simp at this
        omega
      simp only [this]
      rfl
    have hexp : kExp a = BitVec.ofNat 32 b - 126#32 := by
      unfold kExp
      rw [hf, hn0]
      rfl
    refine ⟨k + 1, ?_, ?_, ?_⟩
    · unfold kScale
      have : IntOp.addi (kExp a) 127#32 = BitVec.ofNat 32 (b + 1) := by
        rw [hexp]
        apply BitVec.eq_of_toNat_eq
        simp [IntOp.addi]
        omega
      rw [this, power_ofNat _ (by omega) (by omega)]
      congr 2
      push_cast
      omega
    · unfold kInv
      have : IntOp.addi (IntOp.subi 0#32 (kExp a)) 127#32 = BitVec.ofNat 32 (253 - b) := by
        rw [hexp]
        apply BitVec.eq_of_toNat_eq
        simp [IntOp.addi, IntOp.subi]
        omega
      rw [this, power_ofNat _ (by omega) (by omega)]
      congr 2
      omega
    · have hfloor : ⌊Real.log t * (Real.log 2)⁻¹⌋ = k := by
        have h2 : 0 < Real.log 2 := Real.log_pos one_lt_two
        rw [Int.floor_eq_iff, ← div_eq_mul_inv]
        constructor
        · rw [le_div_iff₀ h2, ← Real.log_zpow]
          exact Real.log_le_log (by positivity) hk
        · rw [div_lt_iff₀ h2]
          have : ((k : ℝ) + 1) * Real.log 2 = Real.log ((2 : ℝ) ^ (k + 1)) := by rw [Real.log_zpow]; push_cast; ring
          rw [this]
          exact Real.log_lt_log hpos hk'
      have hlog : Ideal.log (t : EReal) = ((Real.log t : ℝ) : EReal) := by
        show (if t ≤ 0 then (⊥ : EReal) else (Real.log t : EReal)) = _
        rw [if_neg (not_le.2 hpos)]
      unfold rExp
      have hc : Ideal.cmp .oeq a (Ideal.ofBits .f32 0x00000000#32) = 0#1 := by
        unfold Ideal.cmp
        rw [zero_eq, EReal.coe_zero]
        simp only [decide_eq_false h0]
        rfl
      have hlog2 : Ideal.log ((2 : ℝ) : EReal) = ((Real.log 2 : ℝ) : EReal) := by
        show (if (2 : ℝ) ≤ 0 then (⊥ : EReal) else (Real.log 2 : EReal)) = _
        rw [if_neg (by norm_num)]
      have hdiv : Ideal.div ((Real.log t : ℝ) : EReal) ((Real.log 2 : ℝ) : EReal)
          = ((Real.log t * (Real.log 2)⁻¹ : ℝ) : EReal) := by
        unfold Ideal.div
        rw [if_neg (fun e => (Real.log_pos one_lt_two).ne' (EReal.coe_eq_zero.1 e)), ← EReal.coe_inv, ← EReal.coe_mul]
      rw [hc, ht, hlog, two_eq, hlog2, hdiv, one_eq]
      show ((⌊Real.log t * (Real.log 2)⁻¹⌋ : ℝ) : EReal) + ((1 : ℝ) : EReal) = _
      rw [hfloor, ← EReal.coe_add]
      push_cast
      rfl

/-- In range the two scales agree, -/
theorem InRange.scale_eq {a : EReal} (h : InRange a) : kScale a = rScale a := by
  obtain ⟨n, hs, -, hr⟩ := h.exists_exp
  rw [hs, rScale, hr, two_eq, pow_two]

/-- and their inverses. -/
theorem InRange.inv_eq {a : EReal} (h : InRange a) : kInv a = rInv a := by
  obtain ⟨n, -, hi, hr⟩ := h.exists_exp
  rw [hi, rInv, hr, two_eq, ← EReal.coe_neg, ← Int.cast_neg, pow_two]

end Cert.Exponent

end
-- ==== Proof.Spec.lean ====
/- The results of the quantised linear layer over the extended reals, as functions of the operands. -/
module

public import Idealize.ShloMosaic.PureOps.Ideal
public import Idealize.ShloMosaic.PureOps.Ideal.Laws
public import Idealize.ShloMosaic.Lib.ValueIdx

@[expose] public section

noncomputable section

namespace Cert.Spec

open Idealize.ShloMosaic Idealize.ShloMosaic.ValueIdx
open scoped BigOperators

/-- One element's code: the element over the scale, clipped to the largest finite magnitude of the codes. -/
def code (x inv : EReal) : EReal :=
  min (Ideal.ofBits .f32 0x43E00000#32) (max (Ideal.ofBits .f32 0xC3E00000#32) (x * inv))

/-- The codes of the rows. -/
def codes (x : (⟨2, ![32768, 5120]⟩ : Shape).Idx → EReal) (inv : EReal) : (⟨2, ![32768, 5120]⟩ : Shape).Idx → EReal :=
  fun i => code (x i) inv

/-- The layer's result: each row of codes times each row of the weight's codes, scaled. -/
def out (x : (⟨2, ![32768, 5120]⟩ : Shape).Idx → EReal) (w : (⟨2, ![1280, 5120]⟩ : Shape).Idx → EReal) (inv s : EReal) :
    (⟨2, ![32768, 1280]⟩ : Shape).Idx → EReal :=
  fun j => (∑ k : Fin 5120, code (x (ix2 (j 0) k)) inv * w (ix2 (j 1) k)) * s

/-- The index of the scalar arrays. -/
def i0 : (⟨0, ![]⟩ : Shape).Idx := fun a => a.elim0

instance : Subsingleton (⟨0, ![]⟩ : Shape).Idx := ⟨fun _ _ => funext fun a => a.elim0⟩

/-- The largest magnitude of the activations. -/
def amax (x : (⟨3, ![8, 4096, 5120]⟩ : Shape).Idx → EReal) : EReal := ⨆ i, max (x i) (-(x i))

theorem casts_x : (⟨3, ![8, 4096, 5120]⟩ : Shape).ShapeCasts ⟨2, ![32768, 5120]⟩ := by decide
theorem casts_codes : (⟨2, ![32768, 5120]⟩ : Shape).ShapeCasts ⟨3, ![8, 4096, 5120]⟩ := by decide
theorem casts_out : (⟨2, ![32768, 1280]⟩ : Shape).ShapeCasts ⟨3, ![8, 4096, 1280]⟩ := by decide

/-- The codes of the activations, at the inverse `inv` of the scale. -/
def codes3 (x : (⟨3, ![8, 4096, 5120]⟩ : Shape).Idx → EReal) (inv : EReal) : (⟨3, ![8, 4096, 5120]⟩ : Shape).Idx → EReal :=
  shapeCast _ (codes (shapeCast _ x casts_x) inv) casts_codes

/-- The layer's result at the scale `s`, its inverse `inv` and the weight's scale `ws`. -/
def out3 (x : (⟨3, ![8, 4096, 5120]⟩ : Shape).Idx → EReal) (w : (⟨2, ![1280, 5120]⟩ : Shape).Idx → EReal) (inv s ws : EReal) :
    (⟨3, ![8, 4096, 1280]⟩ : Shape).Idx → EReal :=
  shapeCast _ (out (shapeCast _ x casts_x) w inv (s * ws)) casts_out

end Cert.Spec

end
-- ==== Proof.KernelLinear.lean ====
/- What the second region of `KernelIdeal` leaves: the scaled product, the codes and the scale. -/
module

public import proofs.«01_k».proof.Proof.KernelAmax
public import proofs.«01_k».proof.Proof.Exponent
public import proofs.«01_k».proof.Proof.Spec
public import Idealize.ShloMosaic.Lib.MatmulPlain

@[expose] public section

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run Cert.Exponent Cert.Spec

/-- The first row of the block holding the maximum. -/
def row {F : FTy → Type} (x : Vec F S8x128 .f32) : Vec F S1x128 .f32 :=
  View.ld x (Rect.unit (s := S8x128) ![0, 0] S1x128.size inb_S8x128_S1x128_0_0)

section Body
variable {F : FTy → Type} [FloatOps F]

/-- The element quotients before clipping, from the maximum's block and the operand's. -/
def quot (x1 : Vec F S8x128 .f32) (x2 : Vec F S512x5120 .bf16) : FVec F S512x5120 .bf16 :=
  k1_pay10 (k1_pay4 (row x1)) (k1_pay5 (row x1)) (k1_pay6 (row x1)) k1_pay7 x2

/-- The scale, lane by lane. -/
def scales (x1 : Vec F S8x128 .f32) : FVec F S1x128 .f32 :=
  k1_pay9 (k1_pay4 (row x1)) (k1_pay5 (row x1)) (k1_pay6 (row x1)) k1_pay7

variable (c : Dev nD) (i : grid1.Coords) (a1 : Memref sig .tc .smem S1x1 .f32) (h1 : a1.IsWhole)
    (a2 : Memref sig .tc .vmem S8x128 .f32) (h2 : a2.IsWhole) (a3 : Memref sig .tc .vmem S512x5120 .bf16) (h3 : a3.IsWhole)
    (a4 : Memref sig .tc .vmem S1280x5120 .fp8e4m3) (h4 : a4.IsWhole) (a5 : Memref sig .tc .vmem S512x1280 .bf16) (h5 : a5.IsWhole)
    (a6 : Memref sig .tc .vmem S512x5120 .fp8e4m3) (h6 : a6.IsWhole) (a7 : Memref sig .tc .vmem S8x128 .f32) (h7 : a7.IsWhole)
    (x0 : Vec F S1x1 .f32) (x1 : Vec F S8x128 .f32) (x2 : Vec F S512x5120 .bf16) (x3 : Vec F S1280x5120 .fp8e4m3)

/-- The body leaves the codes of the operand's block, -/
theorem out1_5 : out1_A_5 c i a1 h1 a2 h2 a3 h3 a4 h4 a5 h5 a6 h6 a7 h7 x0 x1 x2 x3
    = k1_pay1 (quot x1 x2) (Scalar.ofBits .f32 0x43E00000#32) k1_pay11 := by
  unfold out1_A_5
  rw [View.read_writes_eq_canon _ _ _ (cover1_A_5 c i a1 h1 a2 h2 a3 h3 a4 h4 a5 h5 a6 h6 a7 h7 x0 x1 x2 x3)]
  unfold kernelRun1_A
  dsimp only
  sl_unfold_words
  rw [View.canon_unit_zero hz]
  simp only [View.readAt_eq_ld, h2.read_unread, h3.read_unread, View.ld_unit_zero (S := S512x5120) hz]
  rfl

/-- the scale in every row, -/
theorem out1_6 : out1_A_6 c i a1 h1 a2 h2 a3 h3 a4 h4 a5 h5 a6 h6 a7 h7 x0 x1 x2 x3 = k1_pay3 (scales x1) := by
  unfold out1_A_6
  rw [View.read_writes_eq_canon _ _ _ (cover1_A_6 c i a1 h1 a2 h2 a3 h3 a4 h4 a5 h5 a6 h6 a7 h7 x0 x1 x2 x3)]
  unfold kernelRun1_A
  dsimp only
  sl_unfold_words
  rw [View.canon_unit_zero hz]
  simp only [View.readAt_eq_ld, h2.read_unread]
  rfl

/-- and the scaled product. -/
theorem out1_4 : out1_A_4 c i a1 h1 a2 h2 a3 h3 a4 h4 a5 h5 a6 h6 a7 h7 x0 x1 x2 x3
    = k1_pay2 (scales x1) (quot x1 x2) (Scalar.ofBits .f32 0x43E00000#32) k1_pay11 x3 (x0 (ix2 0 0)) := by
  unfold out1_A_4
  rw [View.read_writes_eq_canon _ _ _ (cover1_A_4 c i a1 h1 a2 h2 a3 h3 a4 h4 a5 h5 a6 h6 a7 h7 x0 x1 x2 x3)]
  unfold kernelRun1_A
  dsimp only
  sl_unfold_words
  rw [View.canon_unit_zero hz]
  simp only [View.readAt_eq_ld, h1.read_unread, h2.read_unread, h3.read_unread, h4.read_unread,
    View.ld_unit_zero (S := S512x5120) hz, View.ld_unit_zero (S := S1280x5120) hz]
  rw [show View.ld x0 (Rect.unit (s := S1x1) ![0, 0] S1x1.size inb_S1x1_S1x1_0_0) = x0 from View.ld_unit_zero (S := S1x1) hz _ _,
    Subsingleton.elim (α := S1x1.Idx) (Shape.Idx.first _) (ix2 0 0)]
  rfl

end Body

section After
variable {F : FTy → Type} [FloatOps F] (V : (c : Dev nD) → (b : Ref sig .tc) → Buf (Elt F) ((c : Thread nD τ).loc b))

/-- What the body leaves at point `t`: the product, -/
theorem after4 (c : Dev nD) (t : Fin cfg1.N) : ((dat1 V c).after 4 t : Vec F S512x1280 .bf16)
    = k1_pay2 (scales (iblk1 V c 1 t)) (quot (iblk1 V c 1 t) (iblk1 V c 2 t)) (Scalar.ofBits .f32 0x43E00000#32) k1_pay11
        (iblk1 V c 3 t) ((iblk1 V c 0 t : Vec F S1x1 .f32) (ix2 0 0)) := by
  refine (after1_4 V c t).trans ?_
  unfold outsAt1
  dsimp only
  exact out1_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
      (iblk1 V c 0 t) (iblk1 V c 1 t) (iblk1 V c 2 t) (iblk1 V c 3 t)

/-- the codes, -/
theorem after5 (c : Dev nD) (t : Fin cfg1.N) : ((dat1 V c).after 5 t : Vec F S512x5120 .fp8e4m3)
    = k1_pay1 (quot (iblk1 V c 1 t) (iblk1 V c 2 t)) (Scalar.ofBits .f32 0x43E00000#32) k1_pay11 := by
  refine (after1_5 V c t).trans ?_
  unfold outsAt1
  dsimp only
  exact out1_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
      (iblk1 V c 0 t) (iblk1 V c 1 t) (iblk1 V c 2 t) (iblk1 V c 3 t)

/-- and the scale. -/
theorem after6 (c : Dev nD) (t : Fin cfg1.N) : ((dat1 V c).after 6 t : Vec F S8x128 .f32)
    = k1_pay3 (scales (iblk1 V c 1 t)) := by
  refine (after1_6 V c t).trans ?_
  unfold outsAt1
  dsimp only
  exact out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
      (iblk1 V c 0 t) (iblk1 V c 1 t) (iblk1 V c 2 t) (iblk1 V c 3 t)

end After

section Search
variable {F : FTy → Type} [FloatOps F]

/-- One step of the search for the exponent field: the candidate is kept unless the value is below its power of two. -/
def vstep (t : FVec F S1x128 .f32) (c : IVec S1x128 32) (b : BitVec 32) : IVec S1x128 32 :=
  select (cmpf .olt t (bitcastToFloat .f32 (shli (addi c (broadcast S1x128 b)) (broadcast S1x128 23#32)))) c (addi c (broadcast S1x128 b))

/-- The first five steps. -/
theorem pay5_eq (v0 : Vec F S1x128 .f32) : k1_pay5 v0
    = vstep (k1_pay4 v0) (vstep (k1_pay4 v0) (vstep (k1_pay4 v0) (vstep (k1_pay4 v0) (vstep (k1_pay4 v0) (broadcast S1x128 0#32) 128#32) 64#32) 32#32) 16#32) 8#32 := by
  unfold k1_pay5
  generalize k1_pay4 v0 = t
  rfl

/-- The exponent read off the field. -/
def unbias (f : IVec S1x128 32) : IVec S1x128 32 :=
  select (cmpi .eq f (broadcast S1x128 0#32)) (broadcast S1x128 0#32) (subi f (broadcast S1x128 126#32))

/-- The last three steps, and the exponent. -/
theorem pay8_eq (t : FVec F S1x128 .f32) (v : IVec S1x128 32) :
    k1_pay8 t v (addi v (broadcast S1x128 4#32)) (broadcast S1x128 23#32) = unbias (vstep t (vstep t (vstep t v 4#32) 2#32) 1#32) := rfl

end Search

theorem pay4_const (a : EReal) : k1_pay4 (F := Ideal) (fun _ => a) = fun _ => a * recip := by
  unfold k1_pay4
  rw [shapeCast_self]
  rfl

theorem vstep_const (t : EReal) (c b : BitVec 32) : vstep (F := Ideal) (fun _ => t) (fun _ => c) b = fun _ => step t c b := rfl

theorem unbias_const (f : BitVec 32) : unbias (fun _ => f)
    = fun _ => Scalar.select (IntOp.cmpi .eq f 0#32) 0#32 (IntOp.subi f 126#32) := rfl

/-- On a block all of one value the kernel's exponent is `kExp` of it in every lane. -/
theorem exp_const (a : EReal) :
    k1_pay8 (F := Ideal) (k1_pay4 (F := Ideal) fun _ => a) (k1_pay5 (F := Ideal) fun _ => a) (k1_pay6 (F := Ideal) fun _ => a) k1_pay7
      = fun _ => kExp a := by
  have h6 : k1_pay6 (F := Ideal) (fun _ => a) = addi (k1_pay5 (F := Ideal) fun _ => a) (broadcast S1x128 4#32) := rfl
  have h7 : k1_pay7 = (broadcast S1x128 23#32 : IVec S1x128 32) := rfl
  have hb : (broadcast S1x128 0#32 : IVec S1x128 32) = fun _ => 0#32 := rfl
  rw [h6, h7, pay8_eq, pay5_eq, pay4_const, hb]
  simp only [vstep_const, unbias_const]
  unfold kExp field
  with_reducible rfl

/-- Every lane of the scale is the kernel's scale of that lane's maximum. -/
theorem scales_eq (x1 : Vec Ideal S8x128 .f32) (a : EReal) (h : ∀ j, x1 j = a) (j : S1x128.Idx) : scales x1 j = kScale a := by
  have hr : row x1 = fun _ => a := funext fun _ => h _
  unfold scales k1_pay9 kScale
  rw [hr, exp_const]
  generalize kExp a = e
  rfl

/-- Every element over the scale. -/
theorem quot_eq (x1 : Vec Ideal S8x128 .f32) (a : EReal) (h : ∀ j, x1 j = a) (x2 : Vec Ideal S512x5120 .bf16) (i : S512x5120.Idx) :
    quot x1 x2 i = x2 i * kInv a := by
  have hr : row x1 = fun _ => a := funext fun _ => h _
  unfold quot k1_pay10 kInv
  rw [hr, exp_const, shapeCast_self]
  generalize kExp a = e
  rfl

/-- The codes of a block. -/
theorem codes_eq (x1 : Vec Ideal S8x128 .f32) (a : EReal) (h : ∀ j, x1 j = a) (x2 : Vec Ideal S512x5120 .bf16) (i : S512x5120.Idx) :
    k1_pay1 (F := Ideal) (quot x1 x2) (Scalar.ofBits .f32 0x43E00000#32) k1_pay11 i = code (x2 i) (kInv a) := by
  show min _ (max _ (quot x1 x2 i)) = _
  rw [quot_eq x1 a h]
  rfl

/-- The scaled product of a block. -/
theorem prod_eq (x0 : EReal) (x1 : Vec Ideal S8x128 .f32) (a : EReal) (h : ∀ j, x1 j = a) (x2 : Vec Ideal S512x5120 .bf16)
    (x3 : Vec Ideal S1280x5120 .fp8e4m3) (r : Fin 512) (n : Fin 1280) :
    k1_pay2 (F := Ideal) (scales x1) (quot x1 x2) (Scalar.ofBits .f32 0x43E00000#32) k1_pay11 x3 x0 (ix2 r n)
      = (∑ k : Fin 5120, code (x2 (ix2 r k)) (kInv a) * x3 (ix2 n k)) * (kScale a * x0) := by
  have hm : matmul (F := Ideal) (φ₁ := .fp8e4m3) (φ₂ := .fp8e4m3) dot_S512x5120_S1280x5120_S512x1280_1_1_0_0_n_n none
      (k1_pay1 (F := Ideal) (quot x1 x2) (Scalar.ofBits .f32 0x43E00000#32) k1_pay11) x3
      (constant S512x1280 .f32 0x00000000#32) (ix2 r n) = ∑ k : Fin 5120, code (x2 (ix2 r k)) (kInv a) * x3 (ix2 n k) := by
    refine (Ideal.matmul_transposedRhs_apply (M := 512) (K := 5120) (N := 1280) (φ₁ := .fp8e4m3) (φ₂ := .fp8e4m3) none _ _ _ r n).trans ?_
    rw [show constant (F := Ideal) S512x1280 .f32 0x00000000#32 (ix2 r n) = (0 : EReal) from zero_eq, zero_add]
    exact Finset.sum_congr rfl fun k _ => by rw [codes_eq x1 a h]
  show matmul (F := Ideal) (φ₁ := .fp8e4m3) (φ₂ := .fp8e4m3) dot_S512x5120_S1280x5120_S512x1280_1_1_0_0_n_n none
      (k1_pay1 (F := Ideal) (quot x1 x2) (Scalar.ofBits .f32 0x43E00000#32) k1_pay11) x3
      (constant S512x1280 .f32 0x00000000#32) (ix2 r n) * (scales x1 _ * x0) = _
  rw [hm, scales_eq x1 a h]

variable (V : (c : Dev nD) → (b : Ref sig .tc) → Buf (Elt Ideal) ((c : Thread nD τ).loc b))

/-- The blocks of the region's operands: the weight's scale, -/
theorem iblk1_0 (c : Dev nD) (t : Fin cfg1.N) : (iblk1 V c 0 t : Vec Ideal S1x1 .f32) (ix2 0 0) = V c main_v2 (ix2 0 0 : S1x1.Idx) := by
  show V c main_v2 ((win1_0.blk t).view.emb (ix2 0 0 : S1x1.Idx)) = _
  exact congrArg (V c main_v2) (Subsingleton.elim (α := S1x1.Idx) _ _)

/-- and the maximum. -/
theorem iblk1_1 (c : Dev nD) (a : EReal) (h : ∀ j : S8x128.Idx, V c main_v1 j = a) (t : Fin cfg1.N) (j : S8x128.Idx) :
    (iblk1 V c 1 t : Vec Ideal S8x128 .f32) j = a := h _

theorem idx1_2 : ∀ t : Fin cfg1.N, win1_2.index t = ![t.val, 0] := by decide +kernel
theorem idx1_3 : ∀ t : Fin cfg1.N, win1_3.index t = ![0, 0] := by decide +kernel
theorem idx1_4 : ∀ t : Fin cfg1.N, win1_4.index t = ![t.val, 0] := by decide +kernel
theorem idx1_5 : ∀ t : Fin cfg1.N, win1_5.index t = ![t.val, 0] := by decide +kernel

/-- Where the product's block of a point lies, -/
theorem emb4 (t : Fin cfg1.N) (y : S512x1280.Idx) (z : S32768x1280.Idx) (h0 : (z 0 : ℕ) = 512 * t.val + (y 0 : ℕ))
    (h1 : (z 1 : ℕ) = (y 1 : ℕ)) : ((win1_4.blk t).view.emb y : S32768x1280.Idx) = z := by
  blk_ext [idx1_4] <;> omega

/-- and the codes'. -/
theorem emb5 (t : Fin cfg1.N) (y : S512x5120.Idx) (z : S32768x5120.Idx) (h0 : (z 0 : ℕ) = 512 * t.val + (y 0 : ℕ))
    (h1 : (z 1 : ℕ) = (y 1 : ℕ)) : ((win1_5.blk t).view.emb y : S32768x5120.Idx) = z := by
  blk_ext [idx1_5] <;> omega

/-- The rows of point `t`, placed as the codes' block of that point is, -/
theorem iblk1_2 (c : Dev nD) (t : Fin cfg1.N) (i : S512x5120.Idx) :
    (iblk1 V c 2 t : Vec Ideal S512x5120 .bf16) i = V c main_v0 ((win1_5.blk t).view.emb i) := by
  show V c main_v0 ((win1_2.blk t).view.emb i) = _
  have e : ((win1_2.blk t).view.emb i : S32768x5120.Idx) = (win1_5.blk t).view.emb i := by
    blk_ext [idx1_2, idx1_5] <;> omega
  exact congrArg (V c main_v0) e

/-- and the whole weight. -/
theorem iblk1_3 (c : Dev nD) (t : Fin cfg1.N) (i : S1280x5120.Idx) :
    (iblk1 V c 3 t : Vec Ideal S1280x5120 .fp8e4m3) i = V c main_arg1 i := by
  show V c main_arg1 ((win1_3.blk t).view.emb i) = _
  have e : ((win1_3.blk t).view.emb i : S1280x5120.Idx) = i := by
    blk_ext [idx1_3] <;> omega
  exact congrArg (V c main_arg1) e

/-- The second region's codes. -/
theorem codes_arr (c : Dev nD) (a : EReal) (h : ∀ j : S8x128.Idx, V c main_v1 j = a) :
    ((dat1 V c).arrAt 5 cfg1.N : Vec Ideal S32768x5120 .fp8e4m3) = codes (V c main_v0) (kInv a) := by
  refine (dat1 V c).arrAt_eq_of_covers 5 (codes (V c main_v0) (kInv a)) (by decide +kernel) fun t _ y => ?_
  refine (congrFun (after5 V c t) _).trans ?_
  refine (codes_eq _ a (fun j => iblk1_1 V c a h t j) _ _).trans ?_
  exact congrArg (fun v => code v (kInv a)) (iblk1_2 V c t y)

/-- Its scale. -/
theorem scale_arr (c : Dev nD) (a : EReal) (h : ∀ j : S8x128.Idx, V c main_v1 j = a) :
    ((dat1 V c).arrAt 6 cfg1.N : Vec Ideal S8x128 .f32) = fun _ => kScale a := by
  refine (dat1 V c).arrAt_eq_of_after_last 6 ⟨63, by rw [show cfg1.N = 64 from N_1]; decide⟩ (by decide +kernel)
    (fun _ : S8x128.Idx => (kScale a : EReal)) fun j => ?_
  refine (congrFun (after6 V c _) _).trans ?_
  unfold k1_pay3
  rw [shapeCast_self]
  exact scales_eq _ a (fun j => iblk1_1 V c a h _ j) _

/-- Its product. -/
theorem out_arr (c : Dev nD) (a : EReal) (h : ∀ j : S8x128.Idx, V c main_v1 j = a) :
    ((dat1 V c).arrAt 4 cfg1.N : Vec Ideal S32768x1280 .bf16)
      = out (V c main_v0) (V c main_arg1) (kInv a) (kScale a * V c main_v2 (ix2 0 0 : S1x1.Idx)) := by
  refine (dat1 V c).arrAt_eq_of_covers 4 (out (V c main_v0) (V c main_arg1) (kInv a) (kScale a * V c main_v2 (ix2 0 0 : S1x1.Idx)))
    (by decide +kernel) fun t _ y => ?_
  refine (congrFun (after4 V c t) _).trans ?_
  obtain ⟨r, n, rfl⟩ : ∃ (r : Fin 512) (n : Fin 1280), y = (ix2 r n : S512x1280.Idx) := ⟨y 0, y 1, eq_ix2 (n0 := 512) (n1 := 1280) y⟩
  refine (prod_eq _ _ a (fun j => iblk1_1 V c a h t j) _ _ r n).trans ?_
  rw [iblk1_0]
  unfold out
  have ht : t.val < 64 := lt_of_lt_of_eq t.isLt (show cfg1.N = 64 from N_1)
  have hr : 512 * t.val + r.val < 32768 := by have := r.isLt; omega
  have e4 : ((win1_4.blk t).view.emb (ix2 r n : S512x1280.Idx) : S32768x1280.Idx) = ix2 ⟨512 * t.val + r.val, hr⟩ n :=
    emb4 t _ _ rfl rfl
  have e5 : ∀ k : Fin 5120, ((win1_5.blk t).view.emb (ix2 r k : S512x5120.Idx) : S32768x5120.Idx) = ix2 ⟨512 * t.val + r.val, hr⟩ k :=
    fun k => emb5 t _ _ rfl rfl
  refine Eq.trans ?_ (congrArg (fun j : S32768x1280.Idx => (∑ k : Fin 5120, code (V c main_v0 (ix2 (j 0) k)) (kInv a)
    * V c main_arg1 (ix2 (j 1) k)) * (kScale a * V c main_v2 (ix2 0 0 : S1x1.Idx))) e4.symm)
  refine congrArg (· * (kScale a * V c main_v2 (ix2 0 0 : S1x1.Idx))) (Finset.sum_congr rfl fun k _ => ?_)
  rw [iblk1_2, iblk1_3, e5 k]

end Cert.KernelIdeal.Value

end
-- ==== Proof.KernelValue.lean ====
/- The results of `KernelIdeal` from its arguments. -/
module

public import proofs.«01_k».proof.Proof.KernelLinear
public import Idealize.ShloMosaic.Lib.Claim

@[expose] public section

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run Cert.Exponent Cert.Spec Cert.MaxFold

variable (m : (ℓ : Loc nD τ sig) → Buf (Elt Ideal) ℓ) (ρ : Dev nD → PrngReg)

/-- The rows, at the first region's entry, -/
theorem V1_v0 (c : Dev nD) : (V1 m ρ c main_v0 : S32768x5120.Idx → EReal)
    = shapeCast S32768x5120 (m ((c : Thread nD τ).loc main_arg0) : S8x4096x5120.Idx → EReal) casts_x := by
  show StableHlo.after hostOps0 (W0 m ρ c) (Proc.devRef .tc main_v0) = _
  after_results
  rfl

/-- and at the second's. -/
theorem V3_v0 (c : Dev nD) : (V3 m ρ c main_v0 : S32768x5120.Idx → EReal)
    = shapeCast S32768x5120 (m ((c : Thread nD τ).loc main_arg0) : S8x4096x5120.Idx → EReal) casts_x :=
  (W3_of m ρ c main_v0 (by decide)).trans ((W2_of m ρ c main_v0 (by decide)).trans (V1_v0 m ρ c))

/-- The second region finds the largest magnitude in every element, -/
theorem V3_v1 (c : Dev nD) (j : S8x128.Idx) :
    (V3 m ρ c main_v1 : S8x128.Idx → EReal) j = amax (m ((c : Thread nD τ).loc main_arg0)) := by
  have h := (W3_of m ρ c main_v1 (by decide)).trans (W2_arr m ρ c 1)
  refine (congrFun h j).trans ((amax_eq (V1 m ρ) c j).trans ?_)
  rw [V1_v0]
  exact iSup_shapeCast (fun i => mag ((m ((c : Thread nD τ).loc main_arg0) : S8x4096x5120.Idx → EReal) i)) casts_x

/-- the weight's scale, -/
theorem V3_v2 (c : Dev nD) : (V3 m ρ c main_v2 : S1x1.Idx → EReal) (ix2 0 0) = (m ((c : Thread nD τ).loc main_arg2) : S_.Idx → EReal) i0 := by
  have h : (V3 m ρ c main_v2 : S1x1.Idx → EReal)
      = shapeCast S1x1 (W2 m ρ c (Proc.devRef .tc main_arg2) : S_.Idx → EReal) shapeCasts_S_S1x1 := by
    show StableHlo.after hostOps1 (W2 m ρ c) (Proc.devRef .tc main_v2) = _
    after_results
    rfl
  rw [h, W2_args m ρ c main_arg2 (by decide)]
  exact congrArg (m ((c : Thread nD τ).loc main_arg2) : S_.Idx → EReal) (funext fun a => a.elim0)

/-- and the weight. -/
theorem V3_arg1 (c : Dev nD) : V3 m ρ c main_arg1 = m ((c : Thread nD τ).loc main_arg1) := W3_args m ρ c main_arg1 (by decide)

/-- The first result. -/
theorem res_v4 (c : Dev nD) : (W5 m ρ c (Proc.devRef .tc main_v4) : S8x4096x1280.Idx → EReal)
    = out3 (m ((c : Thread nD τ).loc main_arg0)) (m ((c : Thread nD τ).loc main_arg1)) (kInv (amax (m ((c : Thread nD τ).loc main_arg0))))
        (kScale (amax (m ((c : Thread nD τ).loc main_arg0)))) ((m ((c : Thread nD τ).loc main_arg2) : S_.Idx → EReal) i0) := by
  have h : (W5 m ρ c (Proc.devRef .tc main_v4) : S8x4096x1280.Idx → EReal)
      = shapeCast S8x4096x1280 (W4 m ρ c (Proc.devRef .tc main_v3_0) : S32768x1280.Idx → EReal) casts_out := by
    show StableHlo.after hostOps2 (W4 m ρ c) (Proc.devRef .tc main_v4) = _
    after_results
    rfl
  have h' := (W4_arr m ρ c 4).trans (out_arr (V3 m ρ) c _ (V3_v1 m ρ c))
  rw [V3_v0, V3_arg1, V3_v2] at h'
  rw [h]
  exact congrArg (fun v : S32768x1280.Idx → EReal => shapeCast S8x4096x1280 v casts_out) h'

/-- The second. -/
theorem res_v5 (c : Dev nD) : (W5 m ρ c (Proc.devRef .tc main_v5) : S8x4096x5120.Idx → EReal)
    = codes3 (m ((c : Thread nD τ).loc main_arg0)) (kInv (amax (m ((c : Thread nD τ).loc main_arg0)))) := by
  have h : (W5 m ρ c (Proc.devRef .tc main_v5) : S8x4096x5120.Idx → EReal)
      = shapeCast S8x4096x5120 (W4 m ρ c (Proc.devRef .tc main_v3_1) : S32768x5120.Idx → EReal) casts_codes := by
    show StableHlo.after hostOps2 (W4 m ρ c) (Proc.devRef .tc main_v5) = _
    after_results
    rfl
  have h' := (W4_arr m ρ c 5).trans (codes_arr (V3 m ρ) c _ (V3_v1 m ρ c))
  rw [V3_v0] at h'
  rw [h]
  exact congrArg (fun v : S32768x5120.Idx → EReal => shapeCast S8x4096x5120 v casts_codes) h'

/-- The third. -/
theorem res_v7 (c : Dev nD) : (W5 m ρ c (Proc.devRef .tc main_v7) : S_.Idx → EReal)
    = fun _ => kScale (amax (m ((c : Thread nD τ).loc main_arg0))) := by
  have h : (W5 m ρ c (Proc.devRef .tc main_v7) : S_.Idx → EReal)
      = shapeCast S_ (extractStridedSlice S1x1 ![0, 0] (W4 m ρ c (Proc.devRef .tc main_v3_2) : S8x128.Idx → EReal) slices_S8x128_S1x1_0_0)
          shapeCasts_S1x1_S_ := by
    show StableHlo.after hostOps2 (W4 m ρ c) (Proc.devRef .tc main_v7) = _
    after_results
    rfl
  have h' := (W4_arr m ρ c 6).trans (scale_arr (V3 m ρ) c _ (V3_v1 m ρ c))
  rw [h]
  exact congrArg (fun v : S8x128.Idx → EReal => shapeCast S_ (extractStridedSlice S1x1 ![0, 0] v slices_S8x128_S1x1_0_0) shapeCasts_S1x1_S_) h'

end Cert.KernelIdeal.Value

end
-- ==== Proof.RefHost.lean ====
/- What the lines of `ReferenceIdeal` before its region compute. -/
module

public import proofs.«01_k».proof.Proof.Gen.ReferenceIdeal.Frame
public import proofs.«01_k».proof.Proof.Exponent
public import proofs.«01_k».proof.Proof.MaxFold
public import proofs.«01_k».proof.Proof.Spec
public import Idealize.ShloMosaic.Lib.Claim
public import Idealize.ShloMosaic.Lib.Pipeline.Value
public import Idealize.ShloMosaic.Lib.Pipeline.ValueKit.Geometry
public import Idealize.ShloMosaic.Lib.Tactic
public import Idealize.ShloMosaic.Lib.MatmulPlain

@[expose] public section

noncomputable section

namespace Cert.ReferenceIdeal.Value

open Idealize.ShloMosaic Idealize.ShloMosaic.TcCoe Idealize.SL.Sem Idealize.ShloMosaic.ValueIdx
open Idealize.ShloMosaic.Pipeline (Dat)
open Cert.ReferenceIdeal Cert.ReferenceIdeal.Gen Cert.Exponent Cert.Spec Cert.MaxFold

instance : Subsingleton S1x1.Idx := ⟨fun a b => funext fun k => by fin_cases k <;> exact Subsingleton.elim (α := Fin 1) _ _⟩
instance : Subsingleton S_.Idx := ⟨fun _ _ => funext fun k => k.elim0⟩

theorem hz : (![0, 0] : Fin 2 → ℕ) = fun _ => 0 := by decide

/-- The largest magnitude the reference finds. -/
theorem reduce_eq (x : Vec Ideal S8x4096x5120 .bf16) (j : S_.Idx) :
    Host.reduce (FloatOps.maximumf (F := Ideal) (φ := .f32)) (Host.absf (extf (F := Ideal) .f32 x bitsLt_bf16_f32)) (constant (F := Ideal) S_ .f32 0xFF800000#32)
      reducesTo_S8x4096x5120_S_d0_1_2 h_S_ j = amax x :=
  hostReduce_max _ _ _ _ ofBits_f32_bot j

section
variable {F : FTy → Type} [FloatOps F] (m : (ℓ : Loc nD τ sig) → Buf (Elt F) ℓ)

/-- The largest magnitude, as the reference's lines compute it. -/
def amaxOf (x : Vec F S8x4096x5120 .bf16) : Vec F S_ .f32 :=
  Host.reduce FloatOps.maximumf (Host.absf (extf .f32 x bitsLt_bf16_f32)) (constant S_ .f32 0xFF800000#32) reducesTo_S8x4096x5120_S_d0_1_2 h_S_

/-- The exponent, as the reference's lines compute it from the largest magnitude. -/
def expOf (v2 : Vec F S_ .f32) : Vec F S_ .f32 :=
  select (cmpf .oeq v2 (constant S_ .f32 0x00000000#32)) (constant S_ .f32 0x00000000#32)
    (addf (Host.floor (Host.divf (Host.log (mulf v2 (constant S_ .f32 0x3B124925#32))) (Host.log (constant S_ .f32 0x40000000#32))))
      (constant S_ .f32 0x3F800000#32))

/-- The lines before the region: the exponent, -/
theorem V_v10_k (c : Dev nD) : (V m c main_v10 : Vec F S_ .f32) = expOf (amaxOf (m ((c : Thread nD τ).loc main_arg0))) := by
  simp only [V, V0, List.flatten_cons, List.flatten_nil, List.append_nil, List.cons_append, List.nil_append, hostOps0, hostOps0_1, hostOps0_2]
  after_results
  rfl

/-- the scale, -/
theorem V_v11_k (c : Dev nD) : (V m c main_v11 : Vec F S_ .f32) = Host.powf (constant S_ .f32 0x40000000#32) (expOf (amaxOf (m ((c : Thread nD τ).loc main_arg0)))) := by
  simp only [V, V0, List.flatten_cons, List.flatten_nil, List.append_nil, List.cons_append, List.nil_append, hostOps0, hostOps0_1, hostOps0_2]
  after_results
  rfl

/-- the rows, -/
theorem V_v14_k (c : Dev nD) : (V m c main_v14 : Vec F S32768x5120 .bf16) = shapeCast S32768x5120 (m ((c : Thread nD τ).loc main_arg0) : Vec F S8x4096x5120 .bf16) casts_x := by
  simp only [V, V0, List.flatten_cons, List.flatten_nil, List.append_nil, List.cons_append, List.nil_append, hostOps0, hostOps0_1, hostOps0_2]
  after_results
  rfl

/-- the weight's scale, -/
theorem V_v15_k (c : Dev nD) : (V m c main_v15 : Vec F S1x1 .f32) = shapeCast S1x1 (m ((c : Thread nD τ).loc main_arg2) : Vec F S_ .f32) shapeCasts_S_S1x1 := by
  simp only [V, V0, List.flatten_cons, List.flatten_nil, List.append_nil, List.cons_append, List.nil_append, hostOps0, hostOps0_1, hostOps0_2]
  after_results
  rfl

/-- the scale as the region takes it, -/
theorem V_v16_k (c : Dev nD) : (V m c main_v16 : Vec F S1x1 .f32) = shapeCast S1x1 (Host.powf (constant S_ .f32 0x40000000#32) (expOf (amaxOf (m ((c : Thread nD τ).loc main_arg0))))) shapeCasts_S_S1x1 := by
  simp only [V, V0, List.flatten_cons, List.flatten_nil, List.append_nil, List.cons_append, List.nil_append, hostOps0, hostOps0_1, hostOps0_2]
  after_results
  rfl

/-- and its inverse. -/
theorem V_v17_k (c : Dev nD) : (V m c main_v17 : Vec F S1x1 .f32) = shapeCast S1x1 (Host.powf (constant S_ .f32 0x40000000#32) (Host.negf (expOf (amaxOf (m ((c : Thread nD τ).loc main_arg0)))))) shapeCasts_S_S1x1 := by
  simp only [V, V0, List.flatten_cons, List.flatten_nil, List.append_nil, List.cons_append, List.nil_append, hostOps0, hostOps0_1, hostOps0_2]
  after_results
  rfl

end

variable (m : (ℓ : Loc nD τ sig) → Buf (Elt Ideal) ℓ) (ρ : Dev nD → PrngReg)

/-- The exponent at the ideal instance. -/
theorem expOf_eq (x : Vec Ideal S8x4096x5120 .bf16) : expOf (F := Ideal) (amaxOf x) = fun _ => rExp (amax x) := by
  have h : amaxOf x = fun _ => amax x := funext (reduce_eq x)
  rw [h]
  rfl

/-- The power of two of a constant exponent, -/
theorem pow_const (e : EReal) : (Host.powf (F := Ideal) (φ := .f32) (constant S_ .f32 0x40000000#32) (fun _ : S_.Idx => e) : S_.Idx → EReal)
    = fun _ => Ideal.pow (Ideal.ofBits .f32 0x40000000#32) e := rfl

/-- and of its negation. -/
theorem pow_neg_const (e : EReal) : (Host.powf (F := Ideal) (φ := .f32) (constant S_ .f32 0x40000000#32) (Host.negf (fun _ : S_.Idx => e)) : S_.Idx → EReal)
    = fun _ => Ideal.pow (Ideal.ofBits .f32 0x40000000#32) (-e) := rfl

theorem shapeCast_const (e : EReal) (h : S_.ShapeCasts S1x1) : shapeCast S1x1 (fun _ : S_.Idx => e) h = fun _ => e := rfl

/-- The scale at the ideal instance, -/
theorem scale_eq (x : Vec Ideal S8x4096x5120 .bf16) :
    (Host.powf (F := Ideal) (φ := .f32) (constant S_ .f32 0x40000000#32) (expOf (F := Ideal) (amaxOf x)) : S_.Idx → EReal) = fun _ => rScale (amax x) := by
  rw [expOf_eq, pow_const]
  unfold rScale
  with_reducible rfl

/-- and its inverse. -/
theorem inv_eq (x : Vec Ideal S8x4096x5120 .bf16) :
    (Host.powf (F := Ideal) (φ := .f32) (constant S_ .f32 0x40000000#32) (Host.negf (expOf (F := Ideal) (amaxOf x))) : S_.Idx → EReal) = fun _ => rInv (amax x) := by
  rw [expOf_eq, pow_neg_const]
  unfold rInv
  with_reducible rfl

theorem scale_cast (x : Vec Ideal S8x4096x5120 .bf16) (h : S_.ShapeCasts S1x1) :
    shapeCast S1x1 (Host.powf (F := Ideal) (φ := .f32) (constant S_ .f32 0x40000000#32) (expOf (F := Ideal) (amaxOf x)) : S_.Idx → EReal) h
      = fun _ => rScale (amax x) := by
  rw [scale_eq, shapeCast_const]

theorem inv_cast (x : Vec Ideal S8x4096x5120 .bf16) (h : S_.ShapeCasts S1x1) :
    shapeCast S1x1 (Host.powf (F := Ideal) (φ := .f32) (constant S_ .f32 0x40000000#32) (Host.negf (expOf (F := Ideal) (amaxOf x))) : S_.Idx → EReal) h
      = fun _ => rInv (amax x) := by
  rw [inv_eq, shapeCast_const]

/-- The scale as the region takes it, -/
theorem V_v16 (c : Dev nD) : (V m c main_v16 : S1x1.Idx → EReal) = fun _ => rScale (amax (m ((c : Thread nD τ).loc main_arg0))) := by
  exact (V_v16_k m c).trans (scale_cast _ _)

/-- its inverse, -/
theorem V_v17 (c : Dev nD) : (V m c main_v17 : S1x1.Idx → EReal) = fun _ => rInv (amax (m ((c : Thread nD τ).loc main_arg0))) := by
  exact (V_v17_k m c).trans (inv_cast _ _)

/-- the scale as it is returned, -/
theorem V_v11 (c : Dev nD) : (V m c main_v11 : S_.Idx → EReal) = fun _ => rScale (amax (m ((c : Thread nD τ).loc main_arg0))) :=
  (V_v11_k m c).trans (scale_eq _)

/-- and the weight's. -/
theorem V_v15 (c : Dev nD) : (V m c main_v15 : S1x1.Idx → EReal) = fun _ => (m ((c : Thread nD τ).loc main_arg2) : S_.Idx → EReal) i0 := by
  refine (V_v15_k m c).trans ?_
  funext j
  exact congrArg (m ((c : Thread nD τ).loc main_arg2) : S_.Idx → EReal) (funext fun a => a.elim0)

end Cert.ReferenceIdeal.Value

end
-- ==== Proof.RefValue.lean ====
/- The results of `ReferenceIdeal` from its arguments. -/
module

public import proofs.«01_k».proof.Proof.Gen.ReferenceIdeal.Frame
public import proofs.«01_k».proof.Proof.RefHost
public import proofs.«01_k».proof.Proof.MaxFold
public import proofs.«01_k».proof.Proof.Spec
public import Idealize.ShloMosaic.Lib.Claim
public import Idealize.ShloMosaic.Lib.Pipeline.Value
public import Idealize.ShloMosaic.Lib.Pipeline.ValueKit.Geometry
public import Idealize.ShloMosaic.Lib.Tactic
public import Idealize.ShloMosaic.Lib.MatmulPlain

@[expose] public section

noncomputable section

namespace Cert.ReferenceIdeal.Value

open Idealize.ShloMosaic Idealize.ShloMosaic.TcCoe Idealize.SL.Sem Idealize.ShloMosaic.ValueIdx
open Idealize.ShloMosaic.Pipeline (Dat)
open Cert.ReferenceIdeal Cert.ReferenceIdeal.Gen Cert.Exponent Cert.Spec Cert.MaxFold

/-- The codes the body stores, -/
theorem pay1_apply (v0 : Vec Ideal S32768x5120 .bf16) (v3 : Vec Ideal S1x1 .f32) (inv : EReal) (h : ∀ j, v3 j = inv) (i : S32768x5120.Idx) :
    k0_pay1 (F := Ideal) v0 v3 i = code (v0 i) inv := by
  unfold k0_pay1
  rw [shapeCast_self, shapeCast_self]
  show min _ (max _ (v0 i * v3 _)) = _
  rw [h]
  rfl

/-- and its product. -/
theorem pay2_apply (v0 : Vec Ideal S32768x5120 .bf16) (v3 : Vec Ideal S1x1 .f32) (v13 : Vec Ideal S1280x5120 .fp8e4m3)
    (v15 v17 : Vec Ideal S1x1 .f32) (inv s ws : EReal) (h3 : ∀ j, v3 j = inv) (h15 : ∀ j, v15 j = s) (h17 : ∀ j, v17 j = ws) :
    k0_pay2 (F := Ideal) v0 v3 v13 v15 v17 = out v0 v13 inv (s * ws) := by
  funext y
  obtain ⟨r, n, rfl⟩ : ∃ (r : Fin 32768) (n : Fin 1280), y = (ix2 r n : S32768x1280.Idx) := ⟨y 0, y 1, eq_ix2 (n0 := 32768) (n1 := 1280) y⟩
  have hm : matmul (F := Ideal) (φ₁ := .fp8e4m3) (φ₂ := .fp8e4m3) dot_S32768x5120_S1280x5120_S32768x1280_1_1_0_0_n_n none
      (k0_pay1 (F := Ideal) v0 v3) v13 (constant S32768x1280 .f32 0x00000000#32) (ix2 r n)
      = ∑ k : Fin 5120, code (v0 (ix2 r k)) inv * v13 (ix2 n k) := by
    refine (Ideal.matmul_transposedRhs_apply (M := 32768) (K := 5120) (N := 1280) (φ₁ := .fp8e4m3) (φ₂ := .fp8e4m3) none _ _ _ r n).trans ?_
    rw [show constant (F := Ideal) S32768x1280 .f32 0x00000000#32 (ix2 r n) = (0 : EReal) from zero_eq, zero_add]
    exact Finset.sum_congr rfl fun k _ => by rw [pay1_apply v0 v3 inv h3]
  unfold k0_pay2
  rw [shapeCast_self, shapeCast_self]
  show matmul (F := Ideal) (φ₁ := .fp8e4m3) (φ₂ := .fp8e4m3) dot_S32768x5120_S1280x5120_S32768x1280_1_1_0_0_n_n none
      (k0_pay1 (F := Ideal) v0 v3) v13 (constant S32768x1280 .f32 0x00000000#32) (ix2 r n) * (v15 _ * v17 _) = _
  rw [hm, h15, h17]
  rfl

section
variable {F : FTy → Type} [FloatOps F] (m : (ℓ : Loc nD τ sig) → Buf (Elt F) ℓ)

/-- What the region's one point leaves in the product's buffer, -/
theorem after5 (c : Dev nD) (t : Fin cfg0.N) : ((dats m 0 c).after 5 t : Vec F S32768x1280 .bf16)
    = k0_pay2 (iblk m c 0 t : Vec F S32768x5120 .bf16) (iblk m c 4 t : Vec F S1x1 .f32) (iblk m c 1 t : Vec F S1280x5120 .fp8e4m3)
        (iblk m c 3 t : Vec F S1x1 .f32) (iblk m c 2 t : Vec F S1x1 .f32) := by
  refine (after0_5 m c t).trans ?_
  unfold out0_5
  rw [View.canon_unit_zero hz, View.ld_unit_zero hz, View.ld_unit_zero hz, View.ld_unit_zero hz, View.ld_unit_zero hz, View.ld_unit_zero hz]

/-- and in the codes'. -/
theorem after6 (c : Dev nD) (t : Fin cfg0.N) : ((dats m 0 c).after 6 t : Vec F S32768x5120 .fp8e4m3)
    = k0_pay1 (iblk m c 0 t : Vec F S32768x5120 .bf16) (iblk m c 4 t : Vec F S1x1 .f32) := by
  refine (after0_6 m c t).trans ?_
  unfold out0_6
  rw [View.canon_unit_zero hz, View.ld_unit_zero hz, View.ld_unit_zero hz]

end

variable (m : (ℓ : Loc nD τ sig) → Buf (Elt Ideal) ℓ) (ρ : Dev nD → PrngReg)

theorem idx_0 : ∀ t : Fin cfg0.N, win0_0.index t = ![0, 0] := by decide +kernel
theorem idx_1 : ∀ t : Fin cfg0.N, win0_1.index t = ![0, 0] := by decide +kernel
theorem idx_5 : ∀ t : Fin cfg0.N, win0_5.index t = ![0, 0] := by decide +kernel
theorem idx_6 : ∀ t : Fin cfg0.N, win0_6.index t = ![0, 0] := by decide +kernel

/-- A block of the region is the whole array it is read off. -/
theorem read_0 (c : Dev nD) (W : (b : Ref sig .tc) → Buf (Elt Ideal) ((c : Thread nD τ).loc b)) (t : Fin cfg0.N) :
    (((cfg0.win 0).blk t).view.read (Elt Ideal) (W (Pipeline.arrRef spec0 0)) : Vec Ideal S32768x5120 .bf16) = W main_v14 := by
  funext i
  have e : ((win0_0.blk t).view.emb i : S32768x5120.Idx) = i := by
    blk_ext [idx_0] <;> omega
  exact congrArg (W main_v14) e

theorem read_1 (c : Dev nD) (W : (b : Ref sig .tc) → Buf (Elt Ideal) ((c : Thread nD τ).loc b)) (t : Fin cfg0.N) :
    (((cfg0.win 1).blk t).view.read (Elt Ideal) (W (Pipeline.arrRef spec0 1)) : Vec Ideal S1280x5120 .fp8e4m3) = W main_arg1 := by
  funext i
  have e : ((win0_1.blk t).view.emb i : S1280x5120.Idx) = i := by
    blk_ext [idx_1] <;> omega
  exact congrArg (W main_arg1) e

theorem read_2 (c : Dev nD) (W : (b : Ref sig .tc) → Buf (Elt Ideal) ((c : Thread nD τ).loc b)) (e : EReal)
    (h : ∀ j : S1x1.Idx, W main_v15 j = e) (t : Fin cfg0.N) (i : S1x1.Idx) :
    (((cfg0.win 2).blk t).view.read (Elt Ideal) (W (Pipeline.arrRef spec0 2)) : Vec Ideal S1x1 .f32) i = e := h _

theorem read_3 (c : Dev nD) (W : (b : Ref sig .tc) → Buf (Elt Ideal) ((c : Thread nD τ).loc b)) (e : EReal)
    (h : ∀ j : S1x1.Idx, W main_v16 j = e) (t : Fin cfg0.N) (i : S1x1.Idx) :
    (((cfg0.win 3).blk t).view.read (Elt Ideal) (W (Pipeline.arrRef spec0 3)) : Vec Ideal S1x1 .f32) i = e := h _

theorem read_4 (c : Dev nD) (W : (b : Ref sig .tc) → Buf (Elt Ideal) ((c : Thread nD τ).loc b)) (e : EReal)
    (h : ∀ j : S1x1.Idx, W main_v17 j = e) (t : Fin cfg0.N) (i : S1x1.Idx) :
    (((cfg0.win 4).blk t).view.read (Elt Ideal) (W (Pipeline.arrRef spec0 4)) : Vec Ideal S1x1 .f32) i = e := h _

/-- The blocks of the region's operands: the rows, -/
theorem iblk_0 (c : Dev nD) (t : Fin cfg0.N) : (iblk m c 0 t : Vec Ideal S32768x5120 .bf16)
    = shapeCast S32768x5120 (m ((c : Thread nD τ).loc main_arg0) : S8x4096x5120.Idx → EReal) casts_x := by
  unfold iblk
  exact (read_0 c (V m c) t).trans (V_v14_k m c)

/-- the weight, -/
theorem iblk_1 (c : Dev nD) (t : Fin cfg0.N) : (iblk m c 1 t : Vec Ideal S1280x5120 .fp8e4m3) = m ((c : Thread nD τ).loc main_arg1) := by
  unfold iblk
  exact (read_1 c (V m c) t).trans (V_main_arg1 m c)

/-- its scale, -/
theorem iblk_2 (c : Dev nD) (t : Fin cfg0.N) (i : S1x1.Idx) :
    (iblk m c 2 t : Vec Ideal S1x1 .f32) i = (m ((c : Thread nD τ).loc main_arg2) : S_.Idx → EReal) i0 := by
  unfold iblk
  exact read_2 c (V m c) _ (fun j => congrFun (V_v15 m c) j) t i

/-- the activations' scale -/
theorem iblk_3 (c : Dev nD) (t : Fin cfg0.N) (i : S1x1.Idx) :
    (iblk m c 3 t : Vec Ideal S1x1 .f32) i = rScale (amax (m ((c : Thread nD τ).loc main_arg0))) := by
  unfold iblk
  exact read_3 c (V m c) _ (fun j => congrFun (V_v16 m c) j) t i

/-- and its inverse. -/
theorem iblk_4 (c : Dev nD) (t : Fin cfg0.N) (i : S1x1.Idx) :
    (iblk m c 4 t : Vec Ideal S1x1 .f32) i = rInv (amax (m ((c : Thread nD τ).loc main_arg0))) := by
  unfold iblk
  exact read_4 c (V m c) _ (fun j => congrFun (V_v17 m c) j) t i

/-- The rows. -/
abbrev rows (c : Dev nD) : S32768x5120.Idx → EReal :=
  shapeCast S32768x5120 (m ((c : Thread nD τ).loc main_arg0) : S8x4096x5120.Idx → EReal) casts_x

/-- The region's codes, -/
theorem codes_arr (c : Dev nD) : ((dats m 0 c).arrAt 6 cfg0.N : Vec Ideal S32768x5120 .fp8e4m3)
    = codes (rows m c) (rInv (amax (m ((c : Thread nD τ).loc main_arg0)))) := by
  refine (dats m 0 c).arrAt_eq_of_covers 6 (codes (rows m c) (rInv (amax (m ((c : Thread nD τ).loc main_arg0))))) (by decide +kernel)
    fun t _ y => ?_
  refine (congrFun (after6 m c t) _).trans ?_
  refine (pay1_apply _ _ _ (iblk_4 m c t) _).trans ?_
  have e : ((win0_6.blk t).view.emb y : S32768x5120.Idx) = y := by
    blk_ext [idx_6] <;> omega
  refine Eq.trans ?_ (congrArg (codes (rows m c) (rInv (amax (m ((c : Thread nD τ).loc main_arg0))))) e.symm)
  rw [iblk_0]
  unfold codes
  generalize rInv (amax (m ((c : Thread nD τ).loc main_arg0))) = v
  unfold rows
  generalize (shapeCast S32768x5120 (m ((c : Thread nD τ).loc main_arg0) : S8x4096x5120.Idx → EReal) casts_x) = x
  rfl

/-- and its product. -/
theorem out_arr (c : Dev nD) : ((dats m 0 c).arrAt 5 cfg0.N : Vec Ideal S32768x1280 .bf16)
    = out (rows m c) (m ((c : Thread nD τ).loc main_arg1)) (rInv (amax (m ((c : Thread nD τ).loc main_arg0))))
        (rScale (amax (m ((c : Thread nD τ).loc main_arg0))) * (m ((c : Thread nD τ).loc main_arg2) : S_.Idx → EReal) i0) := by
  refine (dats m 0 c).arrAt_eq_of_covers 5 (out (rows m c) (m ((c : Thread nD τ).loc main_arg1)) (rInv (amax (m ((c : Thread nD τ).loc main_arg0))))
        (rScale (amax (m ((c : Thread nD τ).loc main_arg0))) * (m ((c : Thread nD τ).loc main_arg2) : S_.Idx → EReal) i0)) (by decide +kernel)
    fun t _ y => ?_
  refine (congrFun (after5 m c t) _).trans ?_
  refine (congrFun (pay2_apply _ _ _ _ _ _ _ _ (iblk_4 m c t) (iblk_3 m c t) (iblk_2 m c t)) _).trans ?_
  have e : ((win0_5.blk t).view.emb y : S32768x1280.Idx) = y := by
    blk_ext [idx_5] <;> omega
  refine Eq.trans ?_ (congrArg (out (rows m c) (m ((c : Thread nD τ).loc main_arg1)) (rInv (amax (m ((c : Thread nD τ).loc main_arg0))))
        (rScale (amax (m ((c : Thread nD τ).loc main_arg0))) * (m ((c : Thread nD τ).loc main_arg2) : S_.Idx → EReal) i0)) e.symm)
  rw [iblk_0, iblk_1]

/-- The first result. -/
theorem res_v19 (c : Dev nD) : (Pipeline.afterTail₀ cfgs (dats m) 0 (V0 m) [hostOps1] c main_v19 : S8x4096x1280.Idx → EReal)
    = out3 (m ((c : Thread nD τ).loc main_arg0)) (m ((c : Thread nD τ).loc main_arg1)) (rInv (amax (m ((c : Thread nD τ).loc main_arg0))))
        (rScale (amax (m ((c : Thread nD τ).loc main_arg0)))) ((m ((c : Thread nD τ).loc main_arg2) : S_.Idx → EReal) i0) := by
  have h := (Pipeline.withArrays_arr spec0 launch0.win.arr_inj c (V0 m c) (fun w => (dats m 0 c).arrAt w cfg0.N) 5).trans (out_arr m c)
  refine Eq.trans ?_ (congrArg (fun v : S32768x1280.Idx → EReal => shapeCast S8x4096x1280 v casts_out) h)
  unfold Pipeline.afterTail₀
  simp only [List.flatten_cons, List.flatten_nil, List.append_nil, hostOps1]
  after_results
  rfl

/-- The second. -/
theorem res_v20 (c : Dev nD) : (Pipeline.afterTail₀ cfgs (dats m) 0 (V0 m) [hostOps1] c main_v20 : S8x4096x5120.Idx → EReal)
    = codes3 (m ((c : Thread nD τ).loc main_arg0)) (rInv (amax (m ((c : Thread nD τ).loc main_arg0)))) := by
  have h := (Pipeline.withArrays_arr spec0 launch0.win.arr_inj c (V0 m c) (fun w => (dats m 0 c).arrAt w cfg0.N) 6).trans (codes_arr m c)
  refine Eq.trans ?_ (congrArg (fun v : S32768x5120.Idx → EReal => shapeCast S8x4096x5120 v casts_codes) h)
  unfold Pipeline.afterTail₀
  simp only [List.flatten_cons, List.flatten_nil, List.append_nil, hostOps1]
  after_results
  rfl

/-- The third. -/
theorem res_v11 (c : Dev nD) : (Pipeline.afterTail₀ cfgs (dats m) 0 (V0 m) [hostOps1] c main_v11 : S_.Idx → EReal)
    = fun _ => rScale (amax (m ((c : Thread nD τ).loc main_arg0))) := by
  have h : Pipeline.withArrays spec0 c (V0 m c) (fun w => (dats m 0 c).arrAt w cfg0.N) (Proc.devRef .tc main_v11) = V m c main_v11 :=
    Pipeline.withArrays_of_ne _ c (V0 m c) _ main_v11 (by exact (by decide : ∀ w, Pipeline.arrRef spec0 w ≠ main_v11))
  refine Eq.trans ?_ (h.trans (V_v11 m c))
  unfold Pipeline.afterTail₀
  simp only [List.flatten_cons, List.flatten_nil, List.append_nil, hostOps1]
  after_results

end Cert.ReferenceIdeal.Value

end
-- ==== Proof.Pre.lean ====
/- What the precondition says of the largest magnitude. -/
module

public import proofs.«01_k».proof.Pre_in_range
public import proofs.«01_k».proof.Proof.Exponent
public import proofs.«01_k».proof.Proof.MaxFold
public import proofs.«01_k».proof.Proof.Spec

@[expose] public section

noncomputable section

namespace Cert.Pre

open Idealize.ShloMosaic Cert.Exponent Cert.Spec Cert.MaxFold

theorem or_and_one (a b c : Bool) (h : BitVec.ofBool a ||| (BitVec.ofBool b &&& BitVec.ofBool c) = 1#1) : a = true ∨ (b = true ∧ c = true) := by
  revert a b c
  decide

/-- The three comparisons the precondition makes. -/
theorem inRange_of_cmp (a : EReal) (h : Ideal.cmp .oeq a (Ideal.ofBits .f32 0x00000000#32)
    ||| (Ideal.cmp .oge a (Ideal.ofBits .f32 0x04E00000#32) &&& Ideal.cmp .ole a (Ideal.ofBits .f32 0x7F7F0000#32)) = 1#1) : InRange a := by
  rcases or_and_one _ _ _ h with h | ⟨h, h'⟩
  · left
    have := of_decide_eq_true h
    rw [this, zero_eq]
    rfl
  · exact Or.inr ⟨of_decide_eq_true h, of_decide_eq_true h'⟩

section
variable {F : FTy → Type} [FloatOps F] [Cert.Pre_in_range.Facts]

/-- The precondition's value from the largest magnitude. -/
def test (v : FVec F Cert.Pre_in_range.S_ .f32) : IVec Cert.Pre_in_range.S_ 1 :=
  ori (cmpf .oeq v (constant Cert.Pre_in_range.S_ .f32 0x00000000#32))
    (andi (cmpf .oge v (constant Cert.Pre_in_range.S_ .f32 0x04E00000#32)) (cmpf .ole v (constant Cert.Pre_in_range.S_ .f32 0x7F7F0000#32)))

/-- The largest magnitude it reads. -/
def amaxOf (x : FVec F Cert.Pre_in_range.S8x4096x5120 .bf16) : FVec F Cert.Pre_in_range.S_ .f32 :=
  Host.reduce FloatOps.maximumf (Host.absf (extf .f32 x Cert.Pre_in_range.Facts.bitsLt_bf16_f32))
      (constant Cert.Pre_in_range.S_ .f32 0xFF800000#32) Cert.Pre_in_range.Facts.reducesTo_S8x4096x5120_S_d0_1_2 Cert.Pre_in_range.Facts.h_S_

theorem fn_eq (x : FVec F Cert.Pre_in_range.S8x4096x5120 .bf16) (w : FVec F Cert.Pre_in_range.S1280x5120 .fp8e4m3)
    (s : FVec F Cert.Pre_in_range.S_ .f32) : Cert.Pre_in_range.fn x w s = test (amaxOf x) := rfl

end

theorem amaxOf_eq [Cert.Pre_in_range.Facts] (x : FVec Ideal Cert.Pre_in_range.S8x4096x5120 .bf16) :
    amaxOf (F := Ideal) x = fun _ => amax x :=
  funext fun j => hostReduce_max _ _ _ _ ofBits_f32_bot j

theorem test_const (a : EReal) : test (F := Ideal) (fun _ => a) i0 = Ideal.cmp .oeq a (Ideal.ofBits .f32 0x00000000#32)
    ||| (Ideal.cmp .oge a (Ideal.ofBits .f32 0x04E00000#32) &&& Ideal.cmp .ole a (Ideal.ofBits .f32 0x7F7F0000#32)) := rfl

/-- The precondition puts the largest magnitude in range. -/
theorem inRange [Cert.Pre_in_range.Facts] (x : FVec Ideal Cert.Pre_in_range.S8x4096x5120 .bf16) (w : FVec Ideal Cert.Pre_in_range.S1280x5120 .fp8e4m3)
    (s : FVec Ideal Cert.Pre_in_range.S_ .f32) (h : Cert.Pre_in_range.fn (F := Ideal) x w s = fun _ => 1#1) : InRange (amax x) := by
  rw [fn_eq, amaxOf_eq] at h
  have hj := congrFun h i0
  rw [test_const] at hj
  exact inRange_of_cmp _ hj

end Cert.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.FrameKernel
public import proofs.«01_k».proof.Proof.FrameIdeal
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The three results, from arguments on which the two programs agree. -/
theorem algebraic : Cert.algebraic_KernelIdeal_ReferenceIdeal_pre_in_range
    (hKernelIdeal := Cert.KernelIdeal.Gen.facts) (hReferenceIdeal := Cert.ReferenceIdeal.Gen.facts) (hPre_in_range := Cert.Pre_in_range.Gen.facts) := by
  intro m g m' g' hpre hargs
  have hin := fun c => @Cert.Pre.inRange Cert.Pre_in_range.Gen.facts _ _ _ (hpre c)
  refine ⟨fun c => Cert.KernelIdeal.Run.W5 m g c (Proc.devRef .tc Cert.KernelIdeal.main_v4),
    fun c => Cert.KernelIdeal.Run.W5 m g c (Proc.devRef .tc Cert.KernelIdeal.main_v5),
    fun c => Cert.KernelIdeal.Run.W5 m g c (Proc.devRef .tc Cert.KernelIdeal.main_v7), ?_, ?_⟩
  · exact (θ_run Cert.KernelIdeal.defs _ _).mono (fun _ h c =>
      ⟨h.1 c _ (Cert.KernelIdeal.Run.mem_uc Cert.KernelIdeal.main_v4 (by decide)),
       h.1 c _ (Cert.KernelIdeal.Run.mem_uc Cert.KernelIdeal.main_v5 (by decide)),
       h.1 c _ (Cert.KernelIdeal.Run.mem_uc Cert.KernelIdeal.main_v7 (by decide)),
       (h.1 c _ (Cert.KernelIdeal.Run.mem_uc Cert.KernelIdeal.main_arg0 (by decide))).trans (Cert.KernelIdeal.Run.W5_main_arg0 m g c),
       (h.1 c _ (Cert.KernelIdeal.Run.mem_uc Cert.KernelIdeal.main_arg1 (by decide))).trans (Cert.KernelIdeal.Run.W5_main_arg1 m g c),
       (h.1 c _ (Cert.KernelIdeal.Run.mem_uc Cert.KernelIdeal.main_arg2 (by decide))).trans (Cert.KernelIdeal.Run.W5_main_arg2 m g c)⟩)
      (Cert.KernelIdeal.Run.run m g)
  · refine (θ_run Cert.ReferenceIdeal.defs _ _).mono (fun r h c => ⟨?_, ?_, ?_, h.2 c⟩)
      (θ_run_and (Cert.ReferenceIdeal.Gen.run_main m' g') (Cert.ReferenceIdeal.Gen.unchanged m' g'))
    · refine ((h.1 c).2 Cert.ReferenceIdeal.main_v19 (Pipeline.mem_restRefs_of _ (by decide) (by decide))).trans ?_
      refine (Cert.ReferenceIdeal.Value.res_v19 m' c).trans (Eq.trans ?_ (Cert.KernelIdeal.Value.res_v4 m g c).symm)
      rw [(hargs c).1, (hargs c).2.1, (hargs c).2.2, (hin c).scale_eq, (hin c).inv_eq]
    · refine ((h.1 c).2 Cert.ReferenceIdeal.main_v20 (Pipeline.mem_restRefs_of _ (by decide) (by decide))).trans ?_
      refine (Cert.ReferenceIdeal.Value.res_v20 m' c).trans (Eq.trans ?_ (Cert.KernelIdeal.Value.res_v5 m g c).symm)
      rw [(hargs c).1, (hin c).inv_eq]
    · refine ((h.1 c).2 Cert.ReferenceIdeal.main_v11 (Pipeline.mem_restRefs_of _ (by decide) (by decide))).trans ?_
      refine (Cert.ReferenceIdeal.Value.res_v11 m' c).trans (Eq.trans ?_ (Cert.KernelIdeal.Value.res_v7 m g c).symm)
      rw [(hargs c).1, (hin c).scale_eq]
      rfl

theorem claim : Cert.Claim := ⟨Cert.Kernel.Gen.facts, Cert.KernelIdeal.Gen.facts, Cert.ReferenceIdeal.Gen.facts, Cert.Pre_in_range.Gen.facts,
  fun m g _ => Cert.Kernel.Run.frame m g,
  fun m g _ => Cert.KernelIdeal.Run.frame m g,
  fun m g _ => Cert.KernelIdeal.Run.frame m g,
  fun m g _ => Cert.ReferenceIdeal.Gen.frame m g,
  fun m g _ => Cert.ReferenceIdeal.Gen.frame m g,
  trivial,
  algebraic⟩

end Cert.Proof

end
